-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_finite [hKernelIdeal : Cert.KernelIdeal.Facts] [hReferenceIdeal : Cert.ReferenceIdeal.Facts] [hOn_finite : Cert.On_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 64]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨2, ![32768, 64]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v0_1) i = v1 c i)
          ∧ (∀ i : (⟨2, ![32768, 1]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 64]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v2) i = v0 c i)
          ∧ (∀ i : (⟨2, ![32768, 64]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v8) i = v1 c i)
          ∧ (∀ i : (⟨2, ![32768, 1]⟩ : Shape).Idx, (Cert.On_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v20) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_finite : Cert.On_finite.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_finite (hKernelIdeal := hKernelIdeal) (hReferenceIdeal := hReferenceIdeal) (hOn_finite := hOn_finite)
-- ==== On_finite.lean ====
abbrev S4x8192x768 : Shape := ⟨3, ![4, 8192, 768]⟩
abbrev S64x768 : Shape := ⟨2, ![64, 768]⟩
abbrev S_ : Shape := ⟨0, ![]⟩
abbrev S32768x64 : Shape := ⟨2, ![32768, 64]⟩
abbrev S32768x1 : Shape := ⟨2, ![32768, 1]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_
  bcast_S_S32768x64 : S_.BroadcastsInDim S32768x64 (![] : Fin 0 → Fin S32768x64.rank)
  bcast_S_S32768x1 : S_.BroadcastsInDim S32768x1 (![] : Fin 0 → Fin S32768x1.rank)

variable [Facts]

def fn {F : FTy → Type} [FloatOps F] (main_arg0 : FVec F S4x8192x768 .f32) (main_arg1 : FVec F S64x768 .f32) : IVec S32768x64 1 × IVec S32768x64 1 × IVec S32768x1 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_c_2 : IVec S_ 1 := constantI S_ 1 1#1
  let main_v9 : IVec S32768x64 1 := broadcastInDim S32768x64 ![] bcast_S_S32768x64 main_c_2
  let main_c_3 : IVec S_ 1 := constantI S_ 1 1#1
  let main_v10 : IVec S32768x64 1 := broadcastInDim S32768x64 ![] bcast_S_S32768x64 main_c_3
  let main_v11 : IVec S32768x1 1 := broadcastInDim S32768x1 ![] bcast_S_S32768x1 main_v8
  (main_v9, main_v10, main_v11)
-- ==== Kernel.lean ====
abbrev S4x8192x768 : Shape := ⟨3, ![4, 8192, 768]⟩
abbrev S64x768 : Shape := ⟨2, ![64, 768]⟩
abbrev S32768x768 : Shape := ⟨2, ![32768, 768]⟩
abbrev S768x64 : Shape := ⟨2, ![768, 64]⟩
abbrev S32768x64 : Shape := ⟨2, ![32768, 64]⟩
abbrev S1x32768 : Shape := ⟨2, ![1, 32768]⟩
abbrev S32768x1 : Shape := ⟨2, ![32768, 1]⟩
abbrev S4096x768 : Shape := ⟨2, ![4096, 768]⟩
abbrev S4096x64 : Shape := ⟨2, ![4096, 64]⟩
abbrev S64x32768 : Shape := ⟨2, ![64, 32768]⟩
abbrev S64x4096 : Shape := ⟨2, ![64, 4096]⟩
abbrev S64x8 : Shape := ⟨2, ![64, 8]⟩
abbrev S8x128 : Shape := ⟨2, ![8, 128]⟩
abbrev S64x2048 : Shape := ⟨2, ![64, 2048]⟩
abbrev S8x2048 : Shape := ⟨2, ![8, 2048]⟩
abbrev S64x128 : Shape := ⟨2, ![64, 128]⟩
abbrev S64 : Shape := ⟨1, ![64]⟩
abbrev S64x1 : Shape := ⟨2, ![64, 1]⟩
abbrev S2048 : Shape := ⟨1, ![2048]⟩
abbrev S1x2048 : Shape := ⟨2, ![1, 2048]⟩

abbrev nBuf : Space → Nat
  | .hbm => 8
  | .vmem => 9
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S32768x768, .f32⟩
  | .hbm, ⟨3, _⟩ => ⟨S768x64, .f32⟩
  | .hbm, ⟨4, _⟩ => ⟨S32768x64, .f32⟩
  | .hbm, ⟨5, _⟩ => ⟨S32768x64, .f32⟩
  | .hbm, ⟨6, _⟩ => ⟨S1x32768, .i32⟩
  | .hbm, ⟨7, _⟩ => ⟨S32768x1, .i32⟩
  | .local _ .vmem, ⟨0, _⟩ => ⟨S4096x768, .f32⟩
  | .local _ .vmem, ⟨1, _⟩ => ⟨S4096x768, .f32⟩
  | .local _ .vmem, ⟨2, _⟩ => ⟨S768x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S1x32768, .i32⟩
  | .local _ .vmem, ⟨8, _⟩ => ⟨S64x32768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0_0 : Ref sig .tc := ⟨.hbm, 4, rfl⟩
abbrev main_v0_1 : Ref sig .tc := ⟨.hbm, 5, rfl⟩
abbrev main_call0_v2_2 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_7 : Index := 0#32
  let arg0 : BitVec 32 := BitVec.ofNat 32 (i 0).val
  let c4096_i32 : BitVec 32 := 4096#32
  let v10 : BitVec 32 := Scalar.muli arg0 c4096_i32
  let v11 : Index := Scalar.indexCast v10
  ![0, v11.toNat]
def k0_cond1 (i : grid0.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32 : BitVec 32 := 0#32
  let v17 : BitVec 1 := Scalar.cmpi .ne v16 c0_i32
  v17

@[reducible] def k0_t1_loop : Scf.Loop 32 :=
  let c0_i32_11 : BitVec 32 := 0#32
  let c28_i32 : BitVec 32 := 28#32
  let v19 : BitVec 32 := Scalar.addi c0_i32_11 c28_i32
  let c1_i32 : BitVec 32 := 1#32
  ⟨c0_i32_11, v19, c1_i32⟩
@[reducible] def k0_t2_loop : Scf.Loop 32 :=
  let c0_i32_14 : BitVec 32 := 0#32
  let c2_i32 : BitVec 32 := 2#32
  let v22 : BitVec 32 := Scalar.addi c0_i32_14 c2_i32
  let c1_i32_15 : BitVec 32 := 1#32
  ⟨c0_i32_14, v22, c1_i32_15⟩
@[reducible] def k0_t3_loop : Scf.Loop 32 :=
  let c0_i32_16 : BitVec 32 := 0#32
  let c16_i32 : BitVec 32 := 16#32
  let v24 : BitVec 32 := Scalar.addi c0_i32_16 c16_i32
  let c1_i32_17 : BitVec 32 := 1#32
  ⟨c0_i32_16, v24, c1_i32_17⟩
def k0_off2 (k0_t3 : Fin k0_t3_loop.trips) : Fin 2 → Nat :=
  let c0_19 : Index := 0#32
  let c0_i32_16 : BitVec 32 := 0#32
  let c1_i32_17 : BitVec 32 := 1#32
  let arg7 : BitVec 32 := Scf.iv c0_i32_16 c1_i32_17 k0_t3
  let c2048_i32 : BitVec 32 := 2048#32
  let v25 : BitVec 32 := Scalar.muli arg7 c2048_i32
  let v26 : Index := Scalar.indexCast v25
  ![0, v26.toNat]
def k0_off3 (k0_t3 : Fin k0_t3_loop.trips) : Fin 2 → Nat :=
  let c0_23 : Index := 0#32
  let c0_i32_16 : BitVec 32 := 0#32
  let c1_i32_17 : BitVec 32 := 1#32
  let arg7 : BitVec 32 := Scf.iv c0_i32_16 c1_i32_17 k0_t3
  let c2048_i32_22 : BitVec 32 := 2048#32
  let v39 : BitVec 32 := Scalar.muli arg7 c2048_i32_22
  let v40 : Index := Scalar.indexCast v39
  ![0, v40.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32768 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x8192x768 : Shape := ⟨3, ![4, 8192, 768]⟩
abbrev S64x768 : Shape := ⟨2, ![64, 768]⟩
abbrev S32768x768 : Shape := ⟨2, ![32768, 768]⟩
abbrev S768x64 : Shape := ⟨2, ![768, 64]⟩
abbrev S32768x64 : Shape := ⟨2, ![32768, 64]⟩
abbrev S_ : Shape := ⟨0, ![]⟩
abbrev S32768 : Shape := ⟨1, ![32768]⟩
abbrev S64 : Shape := ⟨1, ![64]⟩
abbrev S1x64 : Shape := ⟨2, ![1, 64]⟩
abbrev S32768x1 : Shape := ⟨2, ![32768, 1]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S32768x768, .f32⟩
  | .hbm, ⟨3, _⟩ => ⟨S768x64, .f32⟩
  | .hbm, ⟨4, _⟩ => ⟨S32768x64, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S_, .f32⟩
  | .hbm, ⟨17, _⟩ => ⟨S64, .f32⟩
  | .hbm, ⟨18, _⟩ => ⟨S_, .i32⟩
  | .hbm, ⟨19, _⟩ => ⟨S_, .i32⟩
  | .hbm, ⟨20, _⟩ => ⟨S32768x64, .f32⟩
  | .hbm, ⟨21, _⟩ => ⟨S_, .i32⟩
  | .hbm, ⟨22, _⟩ => ⟨S_, .i32⟩
  | .hbm, ⟨23, _⟩ => ⟨S32768, .f32⟩
  | .hbm, ⟨24, _⟩ => ⟨S64, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1x64, .f32⟩
  | .hbm, ⟨30, _⟩ => ⟨S32768x64, .f32⟩
  | .hbm, ⟨31, _⟩ => ⟨S32768x64, .f32⟩
  | .hbm, ⟨32, _⟩ => ⟨S_, .f32⟩
  | .hbm, ⟨33, _⟩ => ⟨S32768, .f32⟩
  | .hbm, ⟨34, _⟩ => ⟨S_, .f32⟩
  | .hbm, ⟨35, _⟩ => ⟨S32768, .f32⟩
  | .hbm, ⟨36, _⟩ => ⟨S32768, .f32⟩
  | .hbm, ⟨37, _⟩ => ⟨S_, .f32⟩
  | .hbm, ⟨38, _⟩ => ⟨S32768, .f32⟩
  | .hbm, ⟨39, _⟩ => ⟨S32768, .f32⟩
  | .hbm, ⟨40, _⟩ => ⟨S_, .f32⟩
  | .hbm, ⟨41, _⟩ => ⟨S32768, .f32⟩
  | .hbm, ⟨42, _⟩ => ⟨S32768, .f32⟩
  | .hbm, ⟨43, _⟩ => ⟨S32768x1, .f32⟩
  | .hbm, ⟨44, _⟩ => ⟨S32768x64, .f32⟩
  | .hbm, ⟨45, _⟩ => ⟨S32768x64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .i32⟩
  | .hbm, ⟨58, _⟩ => ⟨S_, .i32⟩
  | .hbm, ⟨59, _⟩ => ⟨S1x64, .f32⟩
  | .hbm, ⟨60, _⟩ => ⟨S32768x64, .f32⟩
  | .hbm, ⟨61, _⟩ => ⟨S32768x64, .f32⟩
  | .hbm, ⟨62, _⟩ => ⟨S32768x1, .f32⟩
  | .hbm, ⟨63, _⟩ => ⟨S32768x64, .f32⟩
  | .hbm, ⟨64, _⟩ => ⟨S32768x64, .f32⟩
  | .hbm, ⟨65, _⟩ => ⟨S32768x64, .i32⟩
  | .hbm, ⟨66, _⟩ => ⟨S_, .f32⟩
  | .hbm, ⟨67, _⟩ => ⟨S_, .i32⟩
  | .hbm, ⟨68, _⟩ => ⟨S32768, .f32⟩
  | .hbm, ⟨69, _⟩ => ⟨S32768, .i32⟩
  | .hbm, ⟨70, _⟩ => ⟨S32768x1, .i32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_c : Ref sig .tc := ⟨.hbm, 18, rfl⟩
abbrev main_c_3 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_while0c_c_8 : Ref sig .tc := ⟨.hbm, 25, rfl⟩
abbrev main_while0c_v21 : Ref sig .tc := ⟨.hbm, 26, rfl⟩
abbrev main_while0b_c_8 : Ref sig .tc := ⟨.hbm, 27, rfl⟩
abbrev main_while0b_v21 : Ref sig .tc := ⟨.hbm, 28, rfl⟩
abbrev main_while0b_v22 : Ref sig .tc := ⟨.hbm, 29, rfl⟩
abbrev main_while0b_v23 : Ref sig .tc := ⟨.hbm, 30, rfl⟩
abbrev main_while0b_v24 : Ref sig .tc := ⟨.hbm, 31, rfl⟩
abbrev main_while0b_cst_9 : Ref sig .tc := ⟨.hbm, 32, rfl⟩
abbrev main_while0b_v25 : Ref sig .tc := ⟨.hbm, 33, rfl⟩
abbrev main_while0b_cst_10 : Ref sig .tc := ⟨.hbm, 34, rfl⟩
abbrev main_while0b_v26 : Ref sig .tc := ⟨.hbm, 35, rfl⟩
abbrev main_while0b_v27 : Ref sig .tc := ⟨.hbm, 36, rfl⟩
abbrev main_while0b_cst_11 : Ref sig .tc := ⟨.hbm, 37, rfl⟩
abbrev main_while0b_v28 : Ref sig .tc := ⟨.hbm, 38, rfl⟩
abbrev main_while0b_v29 : Ref sig .tc := ⟨.hbm, 39, rfl⟩
abbrev main_while0b_cst_12 : Ref sig .tc := ⟨.hbm, 40, rfl⟩
abbrev main_while0b_v30 : Ref sig .tc := ⟨.hbm, 41, rfl⟩
abbrev main_while0b_v31 : Ref sig .tc := ⟨.hbm, 42, rfl⟩
abbrev main_while0b_v32 : Ref sig .tc := ⟨.hbm, 43, rfl⟩
abbrev main_while0b_v33 : Ref sig .tc := ⟨.hbm, 44, rfl⟩
abbrev main_while0b_v34 : Ref sig .tc := ⟨.hbm, 45, rfl⟩
abbrev main_while0b_cst_13 : Ref sig .tc := ⟨.hbm, 46, rfl⟩
abbrev main_while0b_v35 : Ref sig .tc := ⟨.hbm, 47, rfl⟩
abbrev main_while0b_cst_14 : Ref sig .tc := ⟨.hbm, 48, rfl⟩
abbrev main_while0b_v36 : Ref sig .tc := ⟨.hbm, 49, rfl⟩
abbrev main_while0b_v37 : Ref sig .tc := ⟨.hbm, 50, rfl⟩
abbrev main_while0b_cst_15 : Ref sig .tc := ⟨.hbm, 51, rfl⟩
abbrev main_while0b_v38 : Ref sig .tc := ⟨.hbm, 52, rfl⟩
abbrev main_while0b_v39 : Ref sig .tc := ⟨.hbm, 53, rfl⟩
abbrev main_while0b_cst_16 : Ref sig .tc := ⟨.hbm, 54, rfl⟩
abbrev main_while0b_v40 : Ref sig .tc := ⟨.hbm, 55, rfl⟩
abbrev main_while0b_v41 : Ref sig .tc := ⟨.hbm, 56, rfl⟩
abbrev main_while0b_c_17 : Ref sig .tc := ⟨.hbm, 57, rfl⟩
abbrev main_while0b_v42 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_call0_v0 : Ref sig .tc := ⟨.hbm, 65, rfl⟩
abbrev main_call0_cst : Ref sig .tc := ⟨.hbm, 66, rfl⟩
abbrev main_call0_c : Ref sig .tc := ⟨.hbm, 67, rfl⟩
abbrev main_call0_v1_0 : Ref sig .tc := ⟨.hbm, 68, rfl⟩
abbrev main_v19 : Ref sig .tc := ⟨.hbm, 69, rfl⟩
abbrev main_v20 : Ref sig .tc := ⟨.hbm, 70, rfl⟩

abbrev nD : Nat := 1
abbrev τ : Topo := Topo.v7x

variable {F : FTy → Type} [FloatOps F]

abbrev main_while0_count : Scf.Loop 32 := ⟨0#32, 30#32, 1#32⟩
-- ==== Proof.Ideal.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.Claim
public import Idealize.ShloMosaic.Lib.WritesUnit
public import Idealize.ShloMosaic.Lib.Pipeline.Value

@[expose] public section

noncomputable section

namespace Cert.Router.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The columns of the scratch which the grid point `i` stores. -/
abbrev rCost (i : grid0.Coords) : Rect S64x32768 := Rect.unit (s := S64x32768) (k0_off1 i) S64x4096.size (k0_off1_inb i)

/-- The scratch after a point's store, from what it held: the point's 4096 columns at the new block, the others as they were. -/
def costAfter (i : grid0.Coords) (x0 : Vec F S4096x768 .f32) (x1 : Vec F S768x64 .f32) (f : Vec F S64x32768 .f32) : Vec F S64x32768 .f32 :=
  fun y => if h : ∀ a, (![0, 4096 * (i 0).val] : Fin 2 → ℕ) a ≤ (y a).val ∧ (y a).val < (![0, 4096 * (i 0).val] : Fin 2 → ℕ) a + S64x4096.size a then
    k0_pay3 x0 x1 (Rect.unitLocal (s := S64x32768) (off := ![0, 4096 * (i 0).val]) (size := S64x4096.size) y h)
  else f y

/-- A load of the whole of a whole buffer reads its contents. -/
theorem readAt_full {κ : Kind} {sp : Space} {s : Shape} {e : EltTy} {M : Memref sig κ sp s e} (h : M.IsWhole) {off : Fin s.rank → Nat}
    (h0 : off = fun _ => 0) (inb : ∀ a, off a + s.size a ≤ s.size a) (X : s.Idx → Elt F e) :
    View.readAt (Elt F) M.view (Rect.unit off s.size inb).toLoadRect (h.unread X) = X := by
  rw [View.readAt_eq_ld, Memref.IsWhole.read_unread, View.ld_unit_zero h0]

/-- A store over the whole of a buffer leaves its payload. -/
theorem read_store_full {κ : Kind} {sp : Space} {s : Shape} {e : EltTy} (v : View sig κ sp s e) (f : v.ty.Contents (Elt F)) {off : Fin s.rank → Nat}
    (h0 : off = fun _ => 0) (inb : ∀ a, off a + s.size a ≤ s.size a) (w : s.Idx → Elt F e) :
    v.read (Elt F) (v.writes (Elt F) f [⟨Rect.unit off s.size inb, w⟩]) = w := by
  funext y
  rw [View.read_writes_cons_unit_of_mem v f inb w [] y y h0 (fun a => by simp)]

/-- The scratch after the store reads `costAfter`. -/
theorem read_cost (i : grid0.Coords) {κ : Kind} {sp : Space} (v : View sig κ sp S64x32768 .f32) (f : v.ty.Contents (Elt F))
    (x0 : Vec F S4096x768 .f32) (x1 : Vec F S768x64 .f32) :
    v.read (Elt F) (v.writes (Elt F) f [⟨rCost i, k0_pay3 x0 x1⟩]) = costAfter i x0 x1 (v.read (Elt F) f) := by
  funext y
  rw [View.read_writes_cons_unit v f (k0_off1_inb i) (k0_pay3 x0 x1) [] y (k0_off1_eq i), View.writes_nil]
  rfl

/-- The body at a point which is not the last: the logits' and the affinities' blocks are stored, and the exponentials of the
    logits into the point's columns of the scratch; nothing else changes. -/
theorem run_mid (c : Dev nD) (E : Set ℕ) (i : grid0.Coords) (hc : ¬ k0_cond1 i = 1#1)
    (arg1 : Memref sig .tc .vmem S4096x768 .f32) (harg1 : arg1.IsWhole) (arg2 : Memref sig .tc .vmem S768x64 .f32) (harg2 : arg2.IsWhole)
    (arg3 : Memref sig .tc .vmem S4096x64 .f32) (harg3 : arg3.IsWhole) (arg4 : Memref sig .tc .vmem S4096x64 .f32) (harg4 : arg4.IsWhole)
    (arg5 : Memref sig .tc .vmem S1x32768 .i32) (harg5 : arg5.IsWhole) (arg6 : Memref sig .tc .vmem S64x32768 .f32) (harg6 : arg6.IsWhole)
    (x0 : Vec F S4096x768 .f32) (x1 : Vec F S768x64 .f32) (f : Vec F S64x32768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg6 fullShare f
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay2 x0 x1)
            ∗ owns (c : Thread nD τ) arg6 fullShare (costAfter i x0 x1 f)) -∗ K ⟨⟩))
      ⊢ wp frame (wpE (defs₀ (F := F)) Variants.none c none) E
          (cc0__router_kernel i arg1 harg1 arg2 harg2 arg3 harg3 arg4 harg4 arg5 harg5 arg6 harg6) K := by
  unfold owns
  iintro ⟨⟨%f0, %hf0, H0⟩, ⟨%f1, %hf1, H1⟩, ⟨%d2, %f2, -, H2⟩, ⟨%d3, %f3, -, H3⟩, ⟨%f6, %hf6, H6⟩, Hk⟩
  obtain rfl := harg1.eq_unread hf0; obtain rfl := harg2.eq_unread hf1; subst hf6
  sl_unfold [cc0__router_kernel]
  sl_exec
  sl_step
  have e0 := readAt_full (F := F) harg1 (off := ![0, 0]) (by decide) inb_S4096x768_S4096x768_0_0 x0
  have e1 := readAt_full (F := F) harg2 (off := ![0, 0]) (by decide) inb_S768x64_S768x64_0_0 x1
  simp only [e0, e1]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; exact read_store_full _ _ (by decide) _ _
  isplitl [H3]
  · iexists _; isplitr; swap; · iexact H3
    ipureintro; exact read_store_full _ _ (by decide) _ _
  iexists _; isplitr; swap; · iexact H6
  ipureintro; exact read_cost i _ _ _ _

/-! ## The last point's loops -/

/-- The position of a token within its chunk of 2048. -/
def inChunk (y : S1x32768.Idx) : S1x2048.Idx
  | 0 => (0 : Fin 1)
  | 1 => (⟨(y 1).val % 2048, Nat.mod_lt _ (by decide)⟩ : Fin 2048)

/-- The first loop runs 28 times, -/
theorem trips_t1 : k0_t1_loop.trips = 28 := by decide +kernel
/-- the second runs twice, -/
theorem trips_t2 : k0_t2_loop.trips = 2 := by decide +kernel
/-- and the third 16 times. -/
theorem trips_t3 : k0_t3_loop.trips = 16 := by decide +kernel

section Last

variable (c : Dev nD) (i : grid0.Coords)
    (arg1 : Memref sig .tc .vmem S4096x768 .f32) (harg1 : arg1.IsWhole) (arg2 : Memref sig .tc .vmem S768x64 .f32) (harg2 : arg2.IsWhole)
    (arg3 : Memref sig .tc .vmem S4096x64 .f32) (harg3 : arg3.IsWhole) (arg4 : Memref sig .tc .vmem S4096x64 .f32) (harg4 : arg4.IsWhole)
    (arg5 : Memref sig .tc .vmem S1x32768 .i32) (harg5 : arg5.IsWhole) (arg6 : Memref sig .tc .vmem S64x32768 .f32) (harg6 : arg6.IsWhole)
    (hc : k0_cond1 i = 1#1)

/-- What the first loop yields from the scratch's contents `g`: the expert scalings after its 28 iterations, in eight columns. -/
def dFast (g : Vec F S64x32768 .f32) : FVec F S64x8 .f32 :=
  st_k0_t1 Variants.none c none i arg1 harg1 arg2 harg2 arg3 harg3 arg4 harg4 arg5 harg5 arg6 harg6 hc (Scalar.ofBits .f32 0x38000000#32)
    (harg6.unread g) k0_pay4 (Scf.trips k0_t1_loop.lb k0_t1_loop.ub k0_t1_loop.st)

/-- What the second loop yields: the expert scalings after two more iterations. -/
def dExact (g : Vec F S64x32768 .f32) : FVec F S64x1 .f32 :=
  st_k0_t2 Variants.none c none i arg1 harg1 arg2 harg2 arg3 harg3 arg4 harg4 arg5 harg5 arg6 harg6 hc (Scalar.ofBits .f32 0x38000000#32)
    (harg6.unread g) (k0_pay6 (dFast c i arg1 harg1 arg2 harg2 arg3 harg3 arg4 harg4 arg5 harg5 arg6 harg6 hc g)) (Scf.trips k0_t2_loop.lb k0_t2_loop.ub k0_t2_loop.st)

/-- Chunk `k` of the scratch, as the third loop loads it. -/
abbrev chunk (g : Vec F S64x32768 .f32) (k : Fin k0_t3_loop.trips) : Vec F S64x2048 .f32 :=
  View.ld g (Rect.unit (s := S64x32768) (k0_off2 k) S64x2048.size (k0_off2_inb i k hc))

/-- Trip `k` of the third loop stores one piece, the indices of chunk `k`'s tokens. -/
theorem tripL_eq (v : FVec F S64x1 .f32) (g : Vec F S64x32768 .f32) (k : Fin k0_t3_loop.trips) :
    tripL_k0_t3 Variants.none c none i arg1 harg1 arg2 harg2 arg3 harg3 arg4 harg4 arg5 harg5 arg6 harg6 hc v (harg6.unread g) k
      = [⟨Rect.unit (s := S1x32768) (k0_off3 k) S1x2048.size (k0_off3_inb i k hc), k0_pay8 v (chunk i hc g k)⟩] := by
  unfold tripL_k0_t3 trip_k0_t3
  dsimp only
  sl_unfold_words
  rw [View.readAt_eq_ld, Memref.IsWhole.read_unread]
  rfl

/-- The chosen experts after the third loop, read at token `y 1`: the token's entry of its chunk's indices. -/
def idxBlock (v : FVec F S64x1 .f32) (g : Vec F S64x32768 .f32) : Vec F S1x32768 .i32 :=
  fun y => k0_pay8 v (chunk i hc g ⟨(y 1).val / 2048, lt_of_lt_of_eq (Nat.div_lt_of_lt_mul (y 1).isLt) trips_t3.symm⟩)
    (inChunk y)

/-- The tokens of the first `n` chunks read their indices after `n` trips of the third loop. -/
theorem read_pb (v : FVec F S64x1 .f32) (g : Vec F S64x32768 .f32) (f : arg5.view.ty.Contents (Elt F)) (n : ℕ) (hn : n ≤ 16)
    (y : S1x32768.Idx) (hy : (y 1).val < 2048 * n) :
    arg5.view.read (Elt F) (arg5.view.writes (Elt F) f
      (pb_k0_t3 Variants.none c none i arg1 harg1 arg2 harg2 arg3 harg3 arg4 harg4 arg5 harg5 arg6 harg6 hc v (harg6.unread g) n)) y = idxBlock i hc v g y := by
  induction n with
  | zero => exact absurd hy (Nat.not_lt_zero _)
  | succ n ih =>
    have hs := pb_k0_t3_succ (F := F) Variants.none c none i arg1 harg1 arg2 harg2 arg3 harg3 arg4 harg4 arg5 harg5 arg6 harg6 hc v (harg6.unread g) ⟨n, lt_of_lt_of_eq hn trips_t3.symm⟩
    rw [tripL_eq] at hs
    rw [hs]
    by_cases h : (y 1).val < 2048 * n
    · refine Eq.trans ?_ (ih (by omega) h)
      exact View.read_writes_cons_unit_of_not_mem _ f _ _ _ y (k0_off3_eq _) 1 (Or.inl h)
    · have hk : (y 1).val / 2048 = n := by omega
      have h0 : (y 0).val = 0 := Nat.lt_one_iff.mp (y 0).isLt
      have hkk : (⟨n, lt_of_lt_of_eq hn trips_t3.symm⟩ : Fin k0_t3_loop.trips)
          = ⟨(y 1).val / 2048, lt_of_lt_of_eq (Nat.div_lt_of_lt_mul (y 1).isLt) trips_t3.symm⟩ := Fin.ext hk.symm
      refine (View.read_writes_cons_unit_of_mem (size := S1x2048.size) arg5.view f (k0_off3_inb i _ hc) (k0_pay8 v (chunk i hc g _)) _ y
        (inChunk y) (k0_off3_eq _) ?_).trans ?_
      · intro a
        match a with
        | 0 => exact h0
        | 1 => show (y 1).val = 2048 * n + (y 1).val % 2048; omega
      · unfold idxBlock
        rw [hkk]

/-- The body at the last point, where the scratch's store leaves `g`: besides the two blocks stored at every point, the indices'
    buffer ends at the indices the three loops compute from `g`. -/
theorem run_last (E : Set ℕ) (x0 : Vec F S4096x768 .f32) (x1 : Vec F S768x64 .f32) (f g : Vec F S64x32768 .f32)
    (hg : costAfter i x0 x1 f = g) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ owns (c : Thread nD τ) arg6 fullShare f
        ∗ (iprop(owns (c : Thread nD τ) arg1 fullShare x0 ∗ owns (c : Thread nD τ) arg2 fullShare x1
            ∗ owns (c : Thread nD τ) arg3 fullShare (k0_pay1 x0 x1) ∗ owns (c : Thread nD τ) arg4 fullShare (k0_pay2 x0 x1)
            ∗ owns (c : Thread nD τ) arg5 fullShare (idxBlock i hc (dExact c i arg1 harg1 arg2 harg2 arg3 harg3 arg4 harg4 arg5 harg5 arg6 harg6 hc g) g)
            ∗ owns (c : Thread nD τ) arg6 fullShare g) -∗ K ⟨⟩))
      ⊢ wp frame (wpE (defs₀ (F := F)) Variants.none c none) E
          (cc0__router_kernel i arg1 harg1 arg2 harg2 arg3 harg3 arg4 harg4 arg5 harg5 arg6 harg6) K := by
  unfold owns
  iintro ⟨⟨%f0, %hf0, H0⟩, ⟨%f1, %hf1, H1⟩, ⟨%d2, %f2, -, H2⟩, ⟨%d3, %f3, -, H3⟩, ⟨%d5, %f5, -, H5⟩, ⟨%f6, %hf6, H6⟩, Hk⟩
  obtain rfl := harg1.eq_unread hf0; obtain rfl := harg2.eq_unread hf1; subst hf6
  sl_unfold [cc0__router_kernel]
  sl_exec
  sl_step
  have e0 := readAt_full (F := F) harg1 (off := ![0, 0]) (by decide) inb_S4096x768_S4096x768_0_0 x0
  have e1 := readAt_full (F := F) harg2 (off := ![0, 0]) (by decide) inb_S768x64_S768x64_0_0 x1
  have hw := harg6.eq_unread ((read_cost i arg6.view f6 x0 x1).trans hg)
  simp only [e0, e1, hw]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; sl_unfold_words; rw [e0, e1]; exact read_store_full _ _ (by decide) _ _
  isplitl [H3]
  · iexists _; isplitr; swap; · iexact H3
    ipureintro; sl_unfold_words; rw [e0, e1]; exact read_store_full _ _ (by decide) _ _
  isplitl [H5]
  · iexists _; isplitr; swap; · iexact H5
    ipureintro; funext y
    sl_unfold_words
    exact (congrArg (fun n => arg5.view.read (Elt F) (arg5.view.writes (Elt F) f5
      (pb_k0_t3 Variants.none c none i arg1 harg1 arg2 harg2 arg3 harg3 arg4 harg4 arg5 harg5 arg6 harg6 hc (dExact c i arg1 harg1 arg2 harg2 arg3 harg3 arg4 harg4 arg5 harg5 arg6 harg6 hc g) (harg6.unread g) n)) y)
        trips_t3).trans (read_pb c i arg1 harg1 arg2 harg2 arg3 harg3 arg4 harg4 arg5 harg5 arg6 harg6 hc _ g f5 16 le_rfl y (y 1).isLt)
  iexists _; isplitr; swap; · iexact H6
  ipureintro; exact harg6.read_unread _

end Last

end Cert.Router.Ideal

end
-- ==== Proof.Ideal.Frame.lean ====
module

public import proofs.«01_k».proof.Proof.Ideal.Run

@[expose] public section

noncomputable section

namespace Cert.Router.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch over the grid -/

/-- The position of a column of the scratch within its point's 4096 columns. -/
def inPoint (y : S64x32768.Idx) : S64x4096.Idx
  | 0 => (y 0 : Fin 64)
  | 1 => (⟨(y 1).val % 4096, Nat.mod_lt _ (by decide)⟩ : Fin 4096)

/-- The grid point that stores a column of the scratch. -/
def pointOf (y : S64x32768.Idx) : Fin cfg0.N := ⟨(y 1).val / 4096, Nat.div_lt_of_lt_mul (y 1).isLt⟩

/-- The exponentials of the logits, tokens along the columns: what the scratch holds once every point has stored its block. -/
def cost (c : Dev nD) : Vec F S64x32768 .f32 := fun y => k0_pay3 (iblk m c 0 (pointOf y)) (iblk m c 1 (pointOf y)) (inPoint y)

/-- The first columns of the scratch, those of the points before `n`, are at the exponentials. -/
def Stored (c : Dev nD) (n : ℕ) (f : Vec F S64x32768 .f32) : Prop := ∀ y : S64x32768.Idx, (y 1).val < 4096 * n → f y = cost m c y

/-- A point's store extends the stored columns by its own. -/
theorem stored_step (c : Dev nD) (t : Fin cfg0.N) (f : Vec F S64x32768 .f32) (h : Stored m c t.val f) :
    Stored m c (t.val + 1) (costAfter (grid0.coords t) (iblk m c 0 t) (iblk m c 1 t) f) := by
  intro y hy
  have ht : (grid0.coords t 0).val = t.val := (by decide +kernel : ∀ t : Fin grid0.N, (grid0.coords t 0).val = t.val) t
  unfold costAfter
  by_cases hin : 4096 * t.val ≤ (y 1).val
  · have hk : pointOf y = t := Fin.ext (by show (y 1).val / 4096 = t.val; omega)
    rw [dif_pos]
    swap
    · intro a
      match a with
      | 0 => exact ⟨Nat.zero_le _, lt_of_lt_of_eq (y 0).isLt (Nat.zero_add 64).symm⟩
      | 1 =>
        refine ⟨?_, ?_⟩
        · show 4096 * (grid0.coords t 0).val ≤ (y 1).val; omega
        · show (y 1).val < 4096 * (grid0.coords t 0).val + 4096; omega
    unfold cost
    rw [hk]
    refine congrArg _ (funext fun a => Fin.ext ?_)
    rw [Rect.unitLocal_val]
    match a with
    | 0 => rfl
    | 1 => show (y 1).val - 4096 * (grid0.coords t 0).val = (y 1).val % 4096; omega
  · rw [dif_neg]
    · exact h y (by omega)
    · intro hall
      have := (hall 1).1
      exact hin (by rw [← ht]; exact this)

/-- The last point is where the kernel's condition holds. -/
theorem cond_iff : ∀ t : Fin cfg0.N, k0_cond1 (grid0.coords t) = 1#1 ↔ t.val = 7 :=
  (by decide +kernel : ∀ t : Fin grid0.N, k0_cond1 (grid0.coords t) = 1#1 ↔ t.val = 7)

/-- Once the points of the whole grid are stored, the scratch is the exponentials. -/
theorem stored_all (c : Dev nD) (f : Vec F S64x32768 .f32) (h : Stored m c 8 f) : f = cost m c :=
  funext fun y => h y (y 1).isLt

/-! ## The pipeline's proof data -/

/-- The expert scalings after all 30 iterations, as the last point's loops compute them from the exponentials. -/
def scalings (c : Dev nD) (t : Fin cfg0.N) (hc : k0_cond1 (grid0.coords t) = 1#1) : FVec F S64x1 .f32 :=
  dExact c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (Memref.whole cc0_scratch0) (Memref.isWhole_whole _) hc (cost m c)

/-- The indices' buffer after the last point. -/
def idxOut (c : Dev nD) (t : Fin cfg0.N) : Vec F S1x32768 .i32 :=
  if hc : k0_cond1 (grid0.coords t) = 1#1 then idxBlock (grid0.coords t) hc (scalings m c t hc) (cost m c) else fun _ => 0#32

/-- The proof data: each input's buffer at its block, the logits' and the affinities' at their payloads of the input blocks, the
    indices' at `idxOut`; the invariant is the scratch's stored columns and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
    | ⟨3, _⟩ => k0_pay2 (iblk m c 0 t) (iblk m c 1 t)
    | ⟨4, _⟩ => idxOut m c t
  Φ t := iprop(∃ f : Vec F S64x32768 .f32, ⌜Stored m c t.val f⌝ ∗ owns (c : Thread nD τ) (Memref.whole cc0_scratch0) fullShare f ∗ (∃ r, prngReg c r))
  q _ := fullShare
  owed _ := 0

/-- The arrays at the launch are the launch's values. -/
theorem A_eq (c : Dev nD) (w : Fin cfg0.W) : (dats m 0 c).A w = V m c (Pipeline.arrRef spec0 w) := by
  dsimp only [dats]

/-- After a point the first input's buffer is at its block, -/
theorem after0_0 (c : Dev nD) (t : Fin cfg0.N) : (dats m 0 c).after 0 t = iblk m c 0 t := by dsimp only [dats]
/-- the second's too, -/
theorem after0_1 (c : Dev nD) (t : Fin cfg0.N) : (dats m 0 c).after 1 t = iblk m c 1 t := by dsimp only [dats]
/-- the logits' buffer at the blocks' product, -/
theorem after0_2 (c : Dev nD) (t : Fin cfg0.N) : (dats m 0 c).after 2 t = k0_pay1 (iblk m c 0 t) (iblk m c 1 t) := by dsimp only [dats]
/-- the affinities' at its logistic function, -/
theorem after0_3 (c : Dev nD) (t : Fin cfg0.N) : (dats m 0 c).after 3 t = k0_pay2 (iblk m c 0 t) (iblk m c 1 t) := by dsimp only [dats]
/-- and the indices' at `idxOut`. -/
theorem after0_4 (c : Dev nD) (t : Fin cfg0.N) : (dats m 0 c).after 4 t = idxOut m c t := by dsimp only [dats]

/-- Before a point the first input's buffer is at its block, -/
theorem before0_0 (c : Dev nD) (t : Fin cfg0.N) (d) : (dats m 0 c).before 0 t d = iblk m c 0 t :=
  before0_0_of m (dats m 0 c) (A_eq m c 0) (after0_0 m c) t d
/-- and the second's too. -/
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The invariant before a point: the stored columns of the scratch, and the generator register. -/
theorem Φ_eq (c : Dev nD) (t : Fin (cfg0.N + 1)) : (dats m 0 c).Φ t
    = iprop(∃ f : Vec F S64x32768 .f32, ⌜Stored m c t.val f⌝ ∗ owns (c : Thread nD τ) (Memref.whole cc0_scratch0) fullShare f ∗ (∃ r, prngReg c r)) := by
  dsimp only [dats]

/-- The indices' window at a point which is not the last: its buffer handed on as it was. -/
theorem leaves_mid (c : Dev nD) (t : Fin cfg0.N) (hc : ¬ k0_cond1 (grid0.coords t) = 1#1) :
    (dats m 0 c).leavesExact 4 t = iprop(∃ d, owns (c : Thread nD τ) (st0_4 t) fullShare ((dats m 0 c).before 4 t d)) := by
  refine Dat.leavesExact_idle _ 4 t ?_ ?_
  · show (!(k0_cond1 (grid0.coords t) == 1#1)) = true
    simp [hc]
  · have h := flush0_4 t
    have h7 := cond_iff t
    have : t.val < 8 := t.isLt
    rw [Bool.eq_false_iff]
    intro hf
    exact hc (h7.2 (by have := h.1 hf; omega))

/-- The indices' window at the last point: its buffer at the indices. -/
theorem leaves_last (c : Dev nD) (t : Fin cfg0.N) (hc : k0_cond1 (grid0.coords t) = 1#1) :
    (dats m 0 c).leavesExact 4 t = owns (c : Thread nD τ) (st0_4 t) fullShare (idxBlock (grid0.coords t) hc (scalings m c t hc) (cost m c)) := by
  have hi : cfg0.idle 4 (cfg0.grid.coords t) = false := by
    show (!(k0_cond1 (grid0.coords t) == 1#1)) = false
    simp [hc]
  unfold Dat.leavesExact
  rw [hi]
  dsimp only
  rw [after0_4, idxOut, dif_pos hc]

/-- The body at any point, from the invariant to the invariant at the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, after0_0, after0_1, after0_2, after0_3, Φ_eq, Φ_eq]
  iintro ⟨⟨%f, %hf, Hs, Hr⟩, Ho, ⟨%d0, H0⟩, ⟨%d1, H1⟩, ⟨%d2, H2⟩, ⟨%d3, H3⟩, ⟨%d4, H4⟩⟩
  have hstep := stored_step m c t f hf
  by_cases hc : k0_cond1 (grid0.coords t) = 1#1
  · rw [leaves_last m c t hc]
    have h8 : costAfter (grid0.coords t) (iblk m c 0 t) (iblk m c 1 t) f = cost m c :=
      stored_all m c _ (by have := (cond_iff t).1 hc; rw [this] at hstep; exact hstep)
    iapply (run_last c (grid0.coords t) _ _ _ _ _ _ _ _ _ _ _ _ hc Set.univ (iblk m c 0 t) (iblk m c 1 t) f (cost m c) h8 _)
    isplitl [H0]; · iexact H0
    isplitl [H1]; · iexact H1
    isplitl [H2]; · iexists _; iexact H2
    isplitl [H3]; · iexists _; iexact H3
    isplitl [H4]; · iexists _; iexact H4
    isplitl [Hs]; · iexact Hs
    iintro ⟨H0, H1, H2, H3, H4, Hs⟩
    isplitl [Hs Hr]
    · iexists (cost m c)
      isplitr; · ipureintro; exact h8 ▸ hstep
      isplitl [Hs]; · iexact Hs
      iexact Hr
    isplitl [Ho]; · iexact Ho
    isplitl [H0]; · iexact H0
    isplitl [H1]; · iexact H1
    isplitl [H2]; · iexact H2
    isplitl [H3]; · iexact H3
    iexact H4
  · rw [leaves_mid m c t hc]
    iapply (run_mid c Set.univ (grid0.coords t) hc _ _ _ _ _ _ _ _ _ _ _ _ (iblk m c 0 t) (iblk m c 1 t) f _)
    isplitl [H0]; · iexact H0
    isplitl [H1]; · iexact H1
    isplitl [H2]; · iexists _; iexact H2
    isplitl [H3]; · iexists _; iexact H3
    isplitl [Hs]; · iexact Hs
    iintro ⟨H0, H1, H2, H3, Hs⟩
    isplitl [Hs Hr]
    · iexists _
      isplitr; · ipureintro; exact hstep
      isplitl [Hs]; · iexact Hs
      iexact Hr
    isplitl [Ho]; · iexact Ho
    isplitl [H0]; · iexact H0
    isplitl [H1]; · iexact H1
    isplitl [H2]; · iexact H2
    isplitl [H3]; · iexact H3
    iexists d4; iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body, run at any point from what the pipeline gives it, returns what the pipeline asks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The region's entry gives the invariant before the first point: nothing is stored yet. -/
theorem hin (c : Dev nD) : Pipeline.ΦA spec0 c ⊢ (dats m 0 c).Φ 0 := by
  rw [Φ_eq]
  unfold Pipeline.ΦA
  rw [scopedRest0_eq]
  iintro ⟨⟨%f, Hf⟩, Hr⟩
  iexists f
  isplitr; · ipureintro; intro y hy; exact absurd hy (Nat.not_lt_zero _)
  rw [owns_whole]
  isplitl [Hf]; · iexact Hf
  iexact Hr

/-- The invariant after the last point gives back the scratch and the generator register. -/
theorem hout (c : Dev nD) : (dats m 0 c).Φ (Fin.last cfg0.N) ⊢ Pipeline.ΦA spec0 c := by
  rw [Φ_eq]
  unfold Pipeline.ΦA
  rw [scopedRest0_eq]
  simp only [owns_whole]
  iintro ⟨%f, -, Hf, Hr⟩
  isplitl [Hf]; · iexists f; iexact Hf
  iexact Hr

-- the run theorem's implicit arguments are found by unifying its conclusion with this one, which takes unfolding plain
-- definitions in a metavariable's type
set_option backward.isDefEq.respectTransparency.types false in
/-- Every weakly fair execution of the program terminates; it ends with every array of the pipeline at what the proof data
    computes, every other buffer at what the host's operations leave, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same run, without its counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the program terminates, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Router.Ideal

end
-- ==== Proof.Ref.Run.lean ====
module

public import proofs.«01_k».proof.Proof.Gen.ReferenceIdeal.Run
public import Idealize.ShloMosaic.Lib.Quiescent

@[expose] public section

noncomputable section

namespace Cert.Router.Ref

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-! ## The reference's values, as functions of its arguments -/

/-- The logits: the tokens' rows times the transposed weights. -/
def logits (h : FVec F S4x8192x768 .f32) (w : FVec F S64x768 .f32) : FVec F S32768x64 .f32 :=
  Host.dotGeneral dot_S32768x768_S768x64_S32768x64_1_0_0_1_n_n none (shapeCast S32768x768 h shapeCasts_S4x8192x768_S32768x768)
    (transpose S768x64 [1, 0] w transposes_S64x768_S768x64_1_0)

/-- The affinities: the logistic function of the logits. -/
def affin (l : FVec F S32768x64 .f32) : FVec F S32768x64 .f32 :=
  Host.divf (broadcastInDim S32768x64 ![] bcast_S_S32768x64 (constant S_ .f32 0x3F800000#32))
    (addf (broadcastInDim S32768x64 ![] bcast_S_S32768x64 (constant S_ .f32 0x3F800000#32)) (Host.exp (Host.negf l)))

/-- A token scaling from the expert scalings `d` and the exponentials `e`. -/
def tokScale (e : FVec F S32768x64 .f32) (d : FVec F S64 .f32) : FVec F S32768 .f32 :=
  mulf (broadcastInDim S32768 ![] bcast_S_S32768 (constant S_ .f32 0x38000000#32))
    (Host.divf (broadcastInDim S32768 ![] bcast_S_S32768 (constant S_ .f32 0x3F800000#32))
      (addf (Host.reduceAdd (mulf (broadcastInDim S32768x64 ![0, 1] bcast_S1x64_S32768x64_0_1 (broadcastInDim S1x64 ![1] bcast_S64_S1x64_1 d)) e)
          (constant S_ .f32 0x00000000#32) reducesTo_S32768x64_S32768_d1 h_S_)
        (broadcastInDim S32768 ![] bcast_S_S32768 (constant S_ .f32 0x322BCC77#32))))

/-- An expert scaling from the token scalings `d` and the exponentials `e`. -/
def expScale (e : FVec F S32768x64 .f32) (d : FVec F S32768 .f32) : FVec F S64 .f32 :=
  mulf (broadcastInDim S64 ![] bcast_S_S64 (constant S_ .f32 0x3C800000#32))
    (Host.divf (broadcastInDim S64 ![] bcast_S_S64 (constant S_ .f32 0x3F800000#32))
      (addf (Host.reduceAdd (mulf (broadcastInDim S32768x64 ![0, 1] bcast_S32768x1_S32768x64_0_1 (broadcastInDim S32768x1 ![0] bcast_S32768_S32768x1_0 d)) e)
          (constant S_ .f32 0x00000000#32) reducesTo_S32768x64_S64_d0 h_S_)
        (broadcastInDim S64 ![] bcast_S_S64 (constant S_ .f32 0x322BCC77#32))))

/-- The expert scalings after `k` iterations: ones, then one iteration after another. -/
def scale (e : FVec F S32768x64 .f32) : ℕ → FVec F S64 .f32
  | 0 => broadcastInDim S64 ![] bcast_S_S64 (constant S_ .f32 0x3F800000#32)
  | k + 1 => expScale e (tokScale e (scale e k))

/-- The balanced assignment from the two scalings. -/
def balanced (e : FVec F S32768x64 .f32) (d1 : FVec F S64 .f32) (d0 : FVec F S32768 .f32) : FVec F S32768x64 .f32 :=
  mulf (mulf (broadcastInDim S32768x64 ![0, 1] bcast_S1x64_S32768x64_0_1 (broadcastInDim S1x64 ![1] bcast_S64_S1x64_1 d1)) e)
    (broadcastInDim S32768x64 ![0, 1] bcast_S32768x1_S32768x64_0_1 (broadcastInDim S32768x1 ![0] bcast_S32768_S32768x1_0 d0))

/-- The expert of each token: the index of its row's largest entry. -/
def chosen (b : FVec F S32768x64 .f32) : IVec S32768x1 32 :=
  shapeCast S32768x1 (fun j => (Host.argReduce reducer_argmax_f32_i32 b (iotaInDim S32768x64 32 1) (constant S_ .f32 0xFF800000#32) (constantI S_ 32 0#32)
    reducesTo_S32768x64_S32768_d1 h_S_ j).2) shapeCasts_S32768_S32768x1

/-- The indices from the expert scalings of `N` iterations and the token scalings of the last, which follow `n` expert scalings. -/
def indicesAt (l : FVec F S32768x64 .f32) (N n : ℕ) : IVec S32768x1 32 :=
  chosen (balanced (Host.exp l) (scale (Host.exp l) N) (tokScale (Host.exp l) (scale (Host.exp l) n)))

/-- The indices: after 30 iterations, the index of each row's largest entry. -/
def indices (l : FVec F S32768x64 .f32) : IVec S32768x1 32 := indicesAt l 30 29

/-! ## What the run leaves -/

variable (m : (ℓ : Loc nD τ sig) → Buf (Elt F) ℓ) (ρ : Dev nD → PrngReg)

/-- The logits of the launch's arguments. -/
abbrev logits₀ (c : Dev nD) : FVec F S32768x64 .f32 := logits (m ((c.tc : Thread nD τ).loc main_arg0)) (m ((c.tc : Thread nD τ).loc main_arg1))

/-- At the loop's entry the first result is the logits, -/
theorem entry_v2 (c : Dev nD) : entryContents preI m c (Proc.devRef .tc main_v2) = logits₀ m c := by
  simp only [entryContents, afterL_cons, afterL_nil]
  after_reads_simp
  rfl
/-- the second is the affinities, -/
theorem entry_v8 (c : Dev nD) : entryContents preI m c (Proc.devRef .tc main_v8) = affin (logits₀ m c) := by
  simp only [entryContents, afterL_cons, afterL_nil]
  after_reads_simp
  rfl
/-- a third buffer holds the logits' exponentials, -/
theorem entry_v9 (c : Dev nD) : entryContents preI m c (Proc.devRef .tc main_v9) = Host.exp (logits₀ m c) := by
  simp only [entryContents, afterL_cons, afterL_nil]
  after_reads_simp
  rfl
/-- which the loop carries, -/
theorem entry_v12_0 (c : Dev nD) : entryContents preI m c (Proc.devRef .tc main_v12_0) = Host.exp (logits₀ m c) := by
  simp only [entryContents, afterL_cons, afterL_nil]
  after_reads_simp
  rfl
/-- and the carried expert scalings are ones. -/
theorem entry_v12_4 (c : Dev nD) : entryContents preI m c (Proc.devRef .tc main_v12_4) = scale (Host.exp (logits₀ m c)) 0 := by
  simp only [entryContents, afterL_cons, afterL_nil]
  after_reads_simp
  rfl

/-- A buffer the loop does not write keeps its contents through it. -/
theorem atK_keep (c : Dev nD) (b : Ref sig .tc) (h₁ : b ∉ condOps_W) (h₂ : b ∉ while0Ops0_W) : ∀ k,
    atK m k c (Proc.devRef .tc b) = entryContents preI m c (Proc.devRef .tc b)
  | 0 => rfl
  | k + 1 => by
    rw [show atK m (k + 1) c = afterL bodyI (after condOps (atK m k c)) from rfl]
    rw [← atK_keep c b h₁ h₂ k]
    exact (after_of_writes_sub while0Ops0 _ while0Ops0_writes h₂).trans (after_of_writes_sub condOps _ condOps_writes h₁)

/-- The condition writes no carried buffer. -/
theorem cond_keep (V : Valuation τ sig (Elt F)) (b : Ref sig .tc) (h₁ : b ∉ condOps_W) :
    after condOps V (Proc.devRef .tc b) = V (Proc.devRef .tc b) := after_of_writes_sub condOps V condOps_writes h₁

/-- The loop carries the exponentials unchanged. -/
theorem atK_v12_0 (c : Dev nD) : ∀ k, atK m k c (Proc.devRef .tc main_v12_0) = Host.exp (logits₀ m c)
  | 0 => entry_v12_0 m c
  | k + 1 => by
    rw [show atK m (k + 1) c = afterL bodyI (after condOps (atK m k c)) from rfl, trip_main_v12_0, cond_keep _ main_v12_0 (by decide)]
    exact atK_v12_0 c k

/-- Before iteration `k` the loop carries the expert scalings of `k` iterations. -/
theorem atK_v12_4 (c : Dev nD) : ∀ k, atK m k c (Proc.devRef .tc main_v12_4) = scale (Host.exp (logits₀ m c)) k
  | 0 => entry_v12_4 m c
  | k + 1 => by
    rw [show atK m (k + 1) c = afterL bodyI (after condOps (atK m k c)) from rfl, trip_main_v12_4]
    unfold res_main_while0b_v31
    rw [cond_keep _ main_v12_0 (by decide), cond_keep _ main_v12_4 (by decide), atK_v12_0, atK_v12_4 c k]
    rfl

/-- and, after it, the token scalings it computed. -/
theorem atK_v12_3 (c : Dev nD) (k : ℕ) : atK m (k + 1) c (Proc.devRef .tc main_v12_3) = tokScale (Host.exp (logits₀ m c)) (scale (Host.exp (logits₀ m c)) k) := by
  rw [show atK m (k + 1) c = afterL bodyI (after condOps (atK m k c)) from rfl, trip_main_v12_3]
  unfold res_main_while0b_v31
  rw [cond_keep _ main_v12_0 (by decide), cond_keep _ main_v12_4 (by decide), atK_v12_0, atK_v12_4]
  rfl

/-- The buffers written after the loop. -/
abbrev post_W : List (Ref sig .tc) := [main_v13, main_v14, main_v15, main_v16, main_v17, main_v18, main_call0_v0, main_call0_cst, main_call0_c, main_call0_v1_0, main_v19, main_v20]

/-- The operations after the loop write no other buffer. -/
theorem post_writes : ((hostOps0_1 ++ (hostOps0_2 ++ hostOps0_3) : List (HloOp τ sig (Elt F)))).Forall fun op => op.writes ⊆ (post_W.map (Proc.devRef (τ := τ) .tc)).toFinset :=
  forall_writes_sub_of_map rfl

/-- A buffer which nothing after the entry writes ends at its contents there. -/
theorem final_keep (c : Dev nD) (b : Ref sig .tc) (h₁ : b ∉ condOps_W) (h₂ : b ∉ while0Ops0_W) (h₃ : b ∉ post_W) :
    finalContents condOps preI bodyI postI 30 m c (Proc.devRef .tc b) = entryContents preI m c (Proc.devRef .tc b) := by
  refine Eq.trans ?_ (atK_keep m c b h₁ h₂ 30)
  refine Eq.trans ?_ (cond_keep (atK m 30 c) b h₁)
  refine Eq.trans ?_ (after_of_writes_sub (hostOps0_1 ++ (hostOps0_2 ++ hostOps0_3)) (after condOps (atK m 30 c)) post_writes h₃)
  rw [after_append, after_append]
  rfl

/-- What the operations after the loop compute, from any contents before them. -/
theorem post_v20 (V : Valuation τ sig (Elt F)) : after hostOps0_3 (after hostOps0_2 (after hostOps0_1 V)) (Proc.devRef .tc main_v20)
    = chosen (balanced (V (Proc.devRef .tc main_v9)) (V (Proc.devRef .tc main_v12_4)) (V (Proc.devRef .tc main_v12_3))) := by
  after_reads_simp
  simp -implicitDefEqProofs only [StableHlo.TRef.toBuf, StableHlo.TRef.ofBuf, cast_cast, cast_eq]
  rfl

/-- The indices after `N = n + 1` iterations. -/
theorem final_v20_at (c : Dev nD) (N n : ℕ) (hN : N = n + 1) :
    finalContents condOps preI bodyI postI N m c (Proc.devRef .tc main_v20) = indicesAt (logits₀ m c) N n := by
  have h9 : after condOps (atK m N c) (Proc.devRef .tc main_v9) = Host.exp (logits₀ m c) :=
    (cond_keep _ main_v9 (by decide)).trans ((atK_keep m c main_v9 (by decide) (by decide) N).trans (entry_v9 m c))
  have h4 : after condOps (atK m N c) (Proc.devRef .tc main_v12_4) = scale (Host.exp (logits₀ m c)) N :=
    (cond_keep _ main_v12_4 (by decide)).trans (atK_v12_4 m c N)
  have h3 : after condOps (atK m N c) (Proc.devRef .tc main_v12_3) = tokScale (Host.exp (logits₀ m c)) (scale (Host.exp (logits₀ m c)) n) :=
    (cond_keep _ main_v12_3 (by decide)).trans (by rw [hN]; exact atK_v12_3 m c n)
  refine (post_v20 (after condOps (atK m N c))).trans ?_
  rw [h9, h4, h3, indicesAt]

/-- The third result is the indices after 30 iterations. -/
theorem final_v20 (c : Dev nD) : finalContents condOps preI bodyI postI 30 m c (Proc.devRef .tc main_v20) = indices (logits₀ m c) :=
  final_v20_at m c 30 29 rfl

/-- A buffer which no operation before the loop writes is, at its entry, as it was at the launch. -/
theorem entry_keep (c : Dev nD) (b : Ref sig .tc) (h : b ∉ hostOps0_W) : entryContents preI m c (Proc.devRef .tc b) = m ((c.tc : Thread nD τ).loc b) := by
  simp only [entryContents, afterL_cons, afterL_nil]
  exact after_of_writes_sub hostOps0 _ hostOps0_writes h

/-- The reference's run: its three results and its arguments. -/
theorem run : θ_run (defs (F := F)) (onTc (τ := τ) (main (F := F))) ⟨m, fun _ => 0, ρ⟩ (fun r => ∀ c : Dev nD,
      r.2.mem ((c.tc : Thread nD τ).loc main_v2) = logits₀ m c
      ∧ r.2.mem ((c.tc : Thread nD τ).loc main_v8) = affin (logits₀ m c)
      ∧ r.2.mem ((c.tc : Thread nD τ).loc main_v20) = indices (logits₀ m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨(h c main_v2 rfl).trans ((final_keep m c main_v2 (by decide) (by decide) (by decide)).trans (entry_v2 m c)),
      (h c main_v8 rfl).trans ((final_keep m c main_v8 (by decide) (by decide) (by decide)).trans (entry_v8 m c)),
      (h c main_v20 rfl).trans (final_v20 m c),
      (h c main_arg0 rfl).trans ((final_keep m c main_arg0 (by decide) (by decide) (by decide)).trans (entry_keep m c main_arg0 (by decide))),
      (h c main_arg1 rfl).trans ((final_keep m c main_arg1 (by decide) (by decide) (by decide)).trans (entry_keep m c main_arg1 (by decide)))⟩)
    (run_fold m ρ)

/-- The reference's frame: its arguments end unchanged, and every counter ends at zero, the program having no semaphore. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2.2.2, sem_eq_zero_of_no_sems (by decide) r.2⟩) (run m ρ)

end Cert.Router.Ref

end
-- ==== Proof.Values.Logits.lean ====
module

public import proofs.«01_k».proof.Proof.Ideal.Frame
public import proofs.«01_k».proof.Proof.Ref.Run
public import Idealize.ShloMosaic.Lib.Pipeline.ValueKit

@[expose] public section

set_option maxRecDepth 16384

noncomputable section

namespace Cert.Router.Values

open Cert.KernelIdeal Cert.KernelIdeal.Gen Cert.Router.Ideal
open Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The reference's logits of the launch's arguments. -/
abbrev L (c : Dev nD) : FVec Ideal S32768x64 .f32 := Ref.logits (m ((c.tc : Thread nD τ).loc main_arg0)) (m ((c.tc : Thread nD τ).loc main_arg1))

/-- The first input is the tokens' rows, -/
theorem V_x (c : Dev nD) : V m c main_call0_v0 = shapeCast S32768x768 (m ((c.tc : Thread nD τ).loc main_arg0) : FVec Ideal S4x8192x768 .f32) shapeCasts_S4x8192x768_S32768x768 := by
  entry_read
  rfl

/-- and the second the transposed weights. -/
theorem V_w (c : Dev nD) : V m c main_call0_v1 = transpose S768x64 [1, 0] (m ((c.tc : Thread nD τ).loc main_arg1) : FVec Ideal S64x768 .f32) transposes_S64x768_S768x64_1_0 := by
  entry_read
  rfl

/-- The kernel's product at an entry. -/
theorem pay1_at (x : FVec Ideal S4096x768 .f32) (w : FVec Ideal S768x64 .f32) (y : S4096x64.Idx) :
    k0_pay1 x w y = ∑ k : Fin 768, x (ix2 (y 0) k) * w (ix2 k (y 1)) := by
  pointwise [k0_pay1]

/-- The reference's product at an entry. -/
theorem logits_at (h : FVec Ideal S4x8192x768 .f32) (w : FVec Ideal S64x768 .f32) (j : S32768x64.Idx) :
    Ref.logits h w j = ∑ k : Fin 768, h (ix3 (⟨(j 0).val / 8192, Nat.div_lt_of_lt_mul (j 0).isLt⟩ : Fin 4) (⟨(j 0).val % 8192, Nat.mod_lt _ (by decide)⟩ : Fin 8192) k)
      * w (ix2 (j 1) k) := by
  pointwise [Ref.logits]

/-- The tokens' rows read at a row: the token's position in its sequence. -/
theorem cast_at (h : FVec Ideal S4x8192x768 .f32) (n : Fin 32768) (k : Fin 768) :
    shapeCast S32768x768 h shapeCasts_S4x8192x768_S32768x768 (ix2 n k)
      = h (ix3 (⟨n.val / 8192, by omega⟩ : Fin 4) (⟨n.val % 8192, by omega⟩ : Fin 8192) k) := by
  pointwise

/-- A point's block of the tokens, at an entry. -/
theorem x_at (c : Dev nD) (t : Fin cfg0.N) (a : Fin 4096) (k : Fin 768) (b : Fin 4) (r : Fin 8192) (hb : b.val = (4096 * t.val + a.val) / 8192) (hr : r.val = (4096 * t.val + a.val) % 8192) :
    (iblk m c 0 t : FVec Ideal S4096x768 .f32) (ix2 a k) = (m ((c.tc : Thread nD τ).loc main_arg0) : FVec Ideal S4x8192x768 .f32) (ix3 b r k) := by
  blk_simp [iblk, idx t]
  rw [V_x]
  have ht : t.val < 8 := t.isLt
  have e : (win0_0.blk t).view.emb (ix2 a k) = ix2 (⟨4096 * t.val + a.val, by omega⟩ : Fin 32768) k := by blk_ext [idx t]
  rw [e]
  exact (cast_at _ _ _).trans (congrArg₂ (fun (b : Fin 4) (r : Fin 8192) => (m ((c.tc : Thread nD τ).loc main_arg0) : FVec Ideal S4x8192x768 .f32) (ix3 b r k)) (Fin.ext hb.symm) (Fin.ext hr.symm))

/-- The block of the weights, at an entry. -/
theorem w_at (c : Dev nD) (t : Fin cfg0.N) (k : Fin 768) (e : Fin 64) :
    (iblk m c 1 t : FVec Ideal S768x64 .f32) (ix2 k e) = (m ((c.tc : Thread nD τ).loc main_arg1) : FVec Ideal S64x768 .f32) (ix2 e k) := by
  blk_simp [iblk, idx t]
  rw [V_w]
  pointwise
  blk_ext [idx t]

/-- What a point stores of the logits is the reference's logits at the block's tokens. -/
theorem point_logits (c : Dev nD) (t : Fin cfg0.N) (y : S4096x64.Idx) (j : S32768x64.Idx) (h0 : (j 0).val = 4096 * t.val + (y 0).val)
    (h1 : (j 1).val = (y 1).val) : k0_pay1 (iblk m c 0 t) (iblk m c 1 t) y = L m c j := by
  refine (pay1_at _ _ y).trans (Eq.trans ?_ (logits_at _ _ j).symm)
  refine Finset.sum_congr rfl fun k _ => congrArg₂ (· * ·) ?_ ?_
  · exact x_at m c t (y 0) k _ _ (congrArg (· / 8192) h0) (congrArg (· % 8192) h0)
  · exact (w_at m c t k (y 1)).trans (congrArg (fun e : Fin 64 => (m ((c.tc : Thread nD τ).loc main_arg1) : FVec Ideal S64x768 .f32) (ix2 e k)) (Fin.ext h1.symm))

/-- The first output ends at the reference's logits, -/
theorem final_logits (c : Dev nD) : (dats m 0 c).arrAt 2 (cfgs 0).N = L m c := by
  refine (dats m 0 c).arrAt_eq_of_covers 2 _ (by decide +kernel) fun t _ y => ?_
  blk_simp
  rw [after0_2]
  exact point_logits m c t y _ (by blk_simp [idx t]; omega) (by blk_simp [idx t])

/-- and the second at their affinities. -/
theorem final_affin (c : Dev nD) : (dats m 0 c).arrAt 3 (cfgs 0).N = Ref.affin (L m c) := by
  refine (dats m 0 c).arrAt_eq_of_covers 3 _ (by decide +kernel) fun t _ y => ?_
  blk_simp
  rw [after0_3]
  have h := point_logits m c t y (((cfg0.win 3).blk t).view.emb y) (by blk_simp [idx t]; omega) (by blk_simp [idx t])
  pointwise [k0_pay2, Ref.affin]
  rw [h, Ideal.logistic]

end Cert.Router.Values

end
-- ==== Proof.Values.Run.lean ====
module

public import proofs.«01_k».proof.Proof.Values.Logits

@[expose] public section

set_option maxRecDepth 16384

noncomputable section

namespace Cert.Router.Values

open Cert.KernelIdeal Cert.KernelIdeal.Gen Cert.Router.Ideal
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The indices the last point stores. -/
abbrev lastIdx (c : Dev nD) : IVec S1x32768 32 := idxOut m c t0_7

/-- The indices' array ends at what the last point stores. -/
theorem final_idx (c : Dev nD) : (dats m 0 c).arrAt 4 (cfgs 0).N = lastIdx m c := by
  refine Dat.arrAt_eq_of_after_last (dats m 0 c) 4 t0_7 (by decide +kernel) _ fun j => ?_
  rw [after0_4]
  blk_simp
  refine congrArg (lastIdx m c) ?_
  blk_ext [idx t0_7]

/-- The host's last operation makes the indices a column. -/
theorem tail_idx (c : Dev nD) : Pipeline.afterTail₀ cfgs (dats m) 0 (V0 m) [hostOps1] c main_v0_2
    = (shapeCast S32768x1 (lastIdx m c) shapeCasts_S1x32768_S32768x1 : IVec S32768x1 32) := by
  unfold Pipeline.afterTail₀
  simp only [hostOps1, List.flatten_cons, List.flatten_nil, List.append_nil]
  after_region_results
  rw [Pipeline.withArrays_arr spec0 launch0.win.arr_inj c (V0 m c) _ 4]
  rw [final_idx]
  rfl

/-- The kernel's run: its three results and its arguments. -/
theorem run : θ_run (defs (F := Ideal)) (onTc (τ := τ) (main (F := Ideal))) ⟨m, fun _ => 0, ρ⟩ (fun r => ∀ c : Dev nD,
      r.2.mem ((c.tc : Thread nD τ).loc main_v0_0) = L m c
      ∧ r.2.mem ((c.tc : Thread nD τ).loc main_v0_1) = Ref.affin (L m c)
      ∧ r.2.mem ((c.tc : Thread nD τ).loc main_v0_2) = (shapeCast S32768x1 (lastIdx m c) shapeCasts_S1x32768_S32768x1 : IVec S32768x1 32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_logits m c), ((h c).1 3).trans (final_affin m c),
      ((h c).2 main_v0_2 (Pipeline.mem_restRefs_of main_v0_2 (by decide) (by decide))).trans (tail_idx m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.Router.Values

end
-- ==== Proof.Trips.Exact.lean ====
module

public import proofs.«01_k».proof.Proof.Ideal.Frame

@[expose] public section

set_option maxRecDepth 65536

noncomputable section

namespace Cert.Router.Trips

open Cert.KernelIdeal Cert.KernelIdeal.Gen Cert.Router.Ideal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The `n`-th block of 128 lanes of 2048 lies within them. -/
theorem lanes_ok {r : ℕ} {n : ℕ} (h : n + 1 ≤ 16) : (⟨2, ![r, 2048]⟩ : Shape).Slices ![0, 128 * n] ⟨2, ![r, 128]⟩ := by
  refine ⟨rfl, fun a => ?_⟩
  match a with
  | 0 => exact le_of_eq (Nat.zero_add r)
  | 1 => show 128 * n + 128 ≤ 2048; omega

/-- The sum of the first `n` of the 16 blocks of 128 lanes of `v`, added one after another to `acc`. -/
def lanes {r : ℕ} (v : FVec F ⟨2, ![r, 2048]⟩ .f32) (acc : FVec F ⟨2, ![r, 128]⟩ .f32) : (n : ℕ) → n ≤ 16 → FVec F ⟨2, ![r, 128]⟩ .f32
  | 0, _ => acc
  | n + 1, h => addf (lanes v acc n (Nat.le_of_succ_le h)) (extractStridedSlice ⟨2, ![r, 128]⟩ ![0, 128 * n] v (lanes_ok h))

/-- The `k`-th chunk of 2048 tokens lies within the scratch. -/
theorem inb_ok {k : ℕ} (h : k + 1 ≤ 16) : ∀ a, (![0, 2048 * k] : Fin 2 → ℕ) a + S64x2048.size a ≤ S64x32768.size a := by
  intro a
  match a with
  | 0 => exact le_rfl
  | 1 => show 2048 * k + 2048 ≤ 32768; omega

/-- Tokens `2048 * k` to `2048 * k + 2047` of the scratch. -/
def tokens (g : Vec F S64x32768 .f32) (k : ℕ) (h : k + 1 ≤ 16) : Vec F S64x2048 .f32 :=
  View.ld g (Rect.unit (s := S64x32768) ![0, 2048 * k] S64x2048.size (inb_ok h))

/-- A chunk's terms of the second loop: the tokens' scalings from `d` times the exponentials. -/
def termsExact (d : FVec F S64x1 .f32) (x : Vec F S64x2048 .f32) : FVec F S64x2048 .f32 :=
  mulf x (broadcastTo S64x2048 (divf (broadcast S1x2048 (Scalar.ofBits .f32 0x38000000#32)) (addf (shapeCast S1x2048 (multiReduction .add [0] S2048 (mulf x (broadcastTo S64x2048 d broadcasts_S64x1_S64x2048)) 0x00000000#32 reduces_S64x2048_S2048 (.inl rfl) rfl) shapeCasts_S2048_S1x2048)
    (broadcast S1x2048 (Scalar.ofBits .f32 0x322BCC77#32)))) broadcasts_S1x2048_S64x2048)

/-- The terms of the first `k` chunks, summed in 128 lanes. -/
def sumExact (d : FVec F S64x1 .f32) (g : Vec F S64x32768 .f32) : (k : ℕ) → k ≤ 16 → FVec F S64x128 .f32
  | 0, _ => broadcast S64x128 (Scalar.ofBits .f32 0x00000000#32)
  | k + 1, h => lanes (termsExact d (tokens g k h)) (sumExact d g k (Nat.le_of_succ_le h)) 16 le_rfl

/-- One trip of the second loop. -/
def stepExact (g : Vec F S64x32768 .f32) (d : FVec F S64x1 .f32) : FVec F S64x1 .f32 :=
  divf (broadcast S64x1 (Scalar.ofBits .f32 0x3C800000#32)) (addf (shapeCast S64x1 (multiReduction .add [1] S64 (sumExact d g 16 le_rfl) 0x00000000#32 reduces_S64x128_S64 (.inl rfl) rfl) shapeCasts_S64_S64x1)
    (broadcast S64x1 (Scalar.ofBits .f32 0x322BCC77#32)))

variable (c : Dev nD) (i : grid0.Coords)
    (arg1 : Memref sig .tc .vmem S4096x768 .f32) (harg1 : arg1.IsWhole) (arg2 : Memref sig .tc .vmem S768x64 .f32) (harg2 : arg2.IsWhole)
    (arg3 : Memref sig .tc .vmem S4096x64 .f32) (harg3 : arg3.IsWhole) (arg4 : Memref sig .tc .vmem S4096x64 .f32) (harg4 : arg4.IsWhole)
    (arg5 : Memref sig .tc .vmem S1x32768 .i32) (harg5 : arg5.IsWhole) (arg6 : Memref sig .tc .vmem S64x32768 .f32) (harg6 : arg6.IsWhole)
    (hc : k0_cond1 i = 1#1)

/-- A printed trip of the second loop is one step. -/
theorem trip_exact (g : Vec F S64x32768 .f32) (k) (d : FVec F S64x1 .f32) :
    tripR_k0_t2 Variants.none c none i arg1 harg1 arg2 harg2 arg3 harg3 arg4 harg4 arg5 harg5 arg6 harg6 hc (Scalar.ofBits .f32 0x38000000#32) (harg6.unread g) k d = stepExact g d := by
  unfold tripR_k0_t2 trip_k0_t2
  dsimp only
  sl_unfold_words
  simp only [View.readAt_eq_ld, Memref.IsWhole.read_unread]
  rfl

end Cert.Router.Trips

end
-- ==== Proof.Trips.Fast.lean ====
module

public import proofs.«01_k».proof.Proof.Trips.Exact

@[expose] public section

set_option maxRecDepth 65536

noncomputable section

namespace Cert.Router.Trips

open Cert.KernelIdeal Cert.KernelIdeal.Gen Cert.Router.Ideal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The eight experts of group `s` lie within the 64. -/
theorem group_ok (s : Fin 8) : S64x2048.Slices ![8 * s.val, 0] S8x2048 := by
  refine ⟨rfl, fun a => ?_⟩
  match a with
  | 0 => show 8 * s.val + 8 ≤ 64; omega
  | 1 => exact le_rfl

/-- A chunk's token scalings of the first loop, the same in each of eight rows. -/
def tokFast (d : FVec F S64x8 .f32) (x : Vec F S64x2048 .f32) : FVec F S8x2048 .f32 :=
  divf (broadcast S8x2048 (Scalar.ofBits .f32 0x38000000#32)) (addf (matmul dot_S64x8_S64x2048_S8x2048_0_0_1_1_n_n none d x (constant S8x2048 .f32 0x00000000#32))
    (broadcast S8x2048 (Scalar.ofBits .f32 0x322BCC77#32)))

/-- A chunk's terms of the first loop for the experts of group `s`. -/
def termsFast (d : FVec F S64x8 .f32) (s : Fin 8) (x : Vec F S64x2048 .f32) : FVec F S8x2048 .f32 :=
  mulf (extractStridedSlice S8x2048 ![8 * s.val, 0] x (group_ok s)) (tokFast d x)

/-- The terms of the first `k` chunks for the experts of group `s`, summed in 128 lanes. -/
def sumFast (d : FVec F S64x8 .f32) (g : Vec F S64x32768 .f32) (s : Fin 8) : (k : ℕ) → k ≤ 16 → FVec F S8x128 .f32
  | 0, _ => broadcast S8x128 (Scalar.ofBits .f32 0x00000000#32)
  | k + 1, h => lanes (termsFast d s (tokens g k h)) (sumFast d g s k (Nat.le_of_succ_le h)) 16 le_rfl

/-- The groups' sums, one above another. -/
def allFast (d : FVec F S64x8 .f32) (g : Vec F S64x32768 .f32) : FVec F S64x128 .f32 :=
  concatenate S64x128 0 [⟨S8x128, sumFast d g 0 16 le_rfl⟩, ⟨S8x128, sumFast d g 1 16 le_rfl⟩, ⟨S8x128, sumFast d g 2 16 le_rfl⟩, ⟨S8x128, sumFast d g 3 16 le_rfl⟩,
    ⟨S8x128, sumFast d g 4 16 le_rfl⟩, ⟨S8x128, sumFast d g 5 16 le_rfl⟩, ⟨S8x128, sumFast d g 6 16 le_rfl⟩, ⟨S8x128, sumFast d g 7 16 le_rfl⟩]
    concatenates_S8x128_S8x128_S8x128_S8x128_S8x128_S8x128_S8x128_S8x128_S64x128_d0

/-- The expert scalings from the groups' sums. -/
def colFast (v : FVec F S64x128 .f32) : FVec F S64x1 .f32 :=
  divf (broadcast S64x1 (Scalar.ofBits .f32 0x3C800000#32)) (addf (shapeCast S64x1 (multiReduction .add [1] S64 v 0x00000000#32 reduces_S64x128_S64 (.inl rfl) rfl) shapeCasts_S64_S64x1)
    (broadcast S64x1 (Scalar.ofBits .f32 0x322BCC77#32)))

/-- One trip of the first loop. -/
def stepFast (g : Vec F S64x32768 .f32) (d : FVec F S64x8 .f32) : FVec F S64x8 .f32 :=
  concatenate S64x8 1 [⟨S64x1, colFast (allFast d g)⟩, ⟨S64x1, colFast (allFast d g)⟩, ⟨S64x1, colFast (allFast d g)⟩, ⟨S64x1, colFast (allFast d g)⟩,
    ⟨S64x1, colFast (allFast d g)⟩, ⟨S64x1, colFast (allFast d g)⟩, ⟨S64x1, colFast (allFast d g)⟩, ⟨S64x1, colFast (allFast d g)⟩]
    concatenates_S64x1_S64x1_S64x1_S64x1_S64x1_S64x1_S64x1_S64x1_S64x8_d1

variable (c : Dev nD) (i : grid0.Coords)
    (arg1 : Memref sig .tc .vmem S4096x768 .f32) (harg1 : arg1.IsWhole) (arg2 : Memref sig .tc .vmem S768x64 .f32) (harg2 : arg2.IsWhole)
    (arg3 : Memref sig .tc .vmem S4096x64 .f32) (harg3 : arg3.IsWhole) (arg4 : Memref sig .tc .vmem S4096x64 .f32) (harg4 : arg4.IsWhole)
    (arg5 : Memref sig .tc .vmem S1x32768 .i32) (harg5 : arg5.IsWhole) (arg6 : Memref sig .tc .vmem S64x32768 .f32) (harg6 : arg6.IsWhole)
    (hc : k0_cond1 i = 1#1)

/-- A printed trip of the first loop is one step. -/
theorem trip_fast (g : Vec F S64x32768 .f32) (k) (d : FVec F S64x8 .f32) :
    tripR_k0_t1 Variants.none c none i arg1 harg1 arg2 harg2 arg3 harg3 arg4 harg4 arg5 harg5 arg6 harg6 hc (Scalar.ofBits .f32 0x38000000#32) (harg6.unread g) k d = stepFast g d := by
  unfold tripR_k0_t1 trip_k0_t1
  dsimp only
  sl_unfold_words
  simp only [View.readAt_eq_ld, Memref.IsWhole.read_unread]
  rfl

end Cert.Router.Trips

end
-- ==== Proof.Trips.Read.lean ====
module

public import proofs.«01_k».proof.Proof.Trips.Fast
public import proofs.«01_k».proof.Proof.Ref.Run
public import Idealize.ShloMosaic.Lib.Pipeline.ValueKit

@[expose] public section

set_option maxRecDepth 16384

noncomputable section

namespace Cert.Router.Trips

open Cert.KernelIdeal Cert.KernelIdeal.Gen Cert.Router.Ideal
open Idealize.ShloMosaic Idealize.ShloMosaic.TcCoe Idealize.SL.Sem

/-- The tokens' scale, 1/32768. -/
abbrev cTok : EReal := (FloatOps.ofBits .f32 0x38000000#32 : Ideal .f32)
/-- The experts' scale, 1/64. -/
abbrev cExp : EReal := (FloatOps.ofBits .f32 0x3C800000#32 : Ideal .f32)
/-- The tolerance, the f32 nearest 1e-8. -/
abbrev cEps : EReal := (FloatOps.ofBits .f32 0x322BCC77#32 : Ideal .f32)

/-- The lanes' accumulator after `n` slices, at an entry: what it held, and the slices' entries of that lane. -/
theorem lanes_at {r : ℕ} (v : FVec Ideal ⟨2, ![r, 2048]⟩ .f32) (acc : FVec Ideal ⟨2, ![r, 128]⟩ .f32) (a : Fin r) (p : Fin 128) : ∀ (n : ℕ) (h : n ≤ 16),
    lanes v acc n h (ix2 a p) = acc (ix2 a p) + ∑ j : Fin n, v (ix2 a (⟨128 * j.val + p.val, by omega⟩ : Fin 2048))
  | 0, _ => by simp [lanes]
  | n + 1, h => by
    rw [lanes, Fin.sum_univ_castSucc, ← add_assoc]
    refine congrArg₂ (· + ·) (lanes_at v acc a p n (Nat.le_of_succ_le h)) ?_
    pointwise
    refine congrArg v (funext fun x => Fin.ext ?_)
    match x with
    | 0 => exact Nat.zero_add _
    | 1 => rfl

/-- Chunk `k` of the scratch at an entry: the scratch at the chunk's token. -/
theorem tokens_at (g : Vec Ideal S64x32768 .f32) (k : ℕ) (h : k + 1 ≤ 16) (a : Fin 64) (q : Fin 2048) :
    tokens g k h (ix2 a q) = g (ix2 a (⟨2048 * k + q.val, by omega⟩ : Fin 32768)) := by
  unfold tokens View.ld
  refine congrArg g (funext fun x => Fin.ext ?_)
  match x with
  | 0 => simp
  | 1 => simp

/-- A term of the second loop: the exponential times its token's scaling. -/
theorem termsExact_at (d : FVec Ideal S64x1 .f32) (x : FVec Ideal S64x2048 .f32) (a : Fin 64) (q : Fin 2048) :
    termsExact d x (ix2 a q) = x (ix2 a q) * Ideal.div cTok (∑ b : Fin 64, x (ix2 b q) * d (ix2 b 0) + cEps) := by
  pointwise [termsExact]

/-- The token scalings of the first loop, in each of the eight rows. -/
theorem tokFast_at (d : FVec Ideal S64x8 .f32) (x : FVec Ideal S64x2048 .f32) (a : Fin 8) (q : Fin 2048) :
    tokFast d x (ix2 a q) = Ideal.div cTok (∑ b : Fin 64, d (ix2 b a) * x (ix2 b q) + cEps) := by
  pointwise [tokFast]

/-- A term of the first loop, in the group `s` of eight experts: the exponential times its token's scaling. -/
theorem termsFast_at (d : FVec Ideal S64x8 .f32) (s : Fin 8) (x : FVec Ideal S64x2048 .f32) (a : Fin 8) (q : Fin 2048) :
    termsFast d s x (ix2 a q) = x (ix2 (⟨8 * s.val + a.val, by omega⟩ : Fin 64) q) * tokFast d x (ix2 a q) := by
  pointwise [termsFast]

/-- The expert scalings of the first loop from the lanes' sums. -/
theorem colFast_at (v : FVec Ideal S64x128 .f32) (a : Fin 64) (z : Fin 1) :
    colFast v (ix2 a z) = Ideal.div cExp (∑ p : Fin 128, v (ix2 a p) + cEps) := by
  pointwise [colFast]

/-- A trip of the second loop at an entry, from the lanes' sums. -/
theorem stepExact_at (g : Vec Ideal S64x32768 .f32) (d : FVec Ideal S64x1 .f32) (a : Fin 64) (z : Fin 1) :
    stepExact g d (ix2 a z) = Ideal.div cExp (∑ p : Fin 128, sumExact d g 16 le_rfl (ix2 a p) + cEps) := by
  pointwise [stepExact]

/-- A trip of the first loop has one column, eight times. -/
theorem stepFast_at (g : Vec Ideal S64x32768 .f32) (d : FVec Ideal S64x8 .f32) (a : Fin 64) (z : Fin 8) :
    stepFast g d (ix2 a z) = colFast (allFast d g) (ix2 a 0) := by
  pointwise [stepFast]
  split_ifs <;> exact congrArg (fun z : Fin 1 => colFast (allFast d g) (ix2 a z)) (Subsingleton.elim _ _)

/-- Eight groups of eight rows stacked, read at row `8 s + a`: row `a` of group `s`. -/
theorem groups_at (f : Fin 8 → FVec Ideal S8x128 .f32) (n : Fin 64) (s a : Fin 8) (hn : n.val = 8 * s.val + a.val) (p : Fin 128) :
    concatenate S64x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩]
      concatenates_S8x128_S8x128_S8x128_S8x128_S8x128_S8x128_S8x128_S8x128_S64x128_d0 (ix2 n p) = f s (ix2 a p) := by
  have key : ∀ (t b : Fin 8), n.val = 8 * t.val + b.val → f t (ix2 b p) = f s (ix2 a p) := fun t b h => by
    obtain rfl : t = s := Fin.ext (by omega)
    obtain rfl : b = a := Fin.ext (by omega)
    rfl
  pointwise
  split_ifs
  all_goals
    refine key _ _ ?_
    simp only [Fin.isValue, Fin.coe_ofNat_eq_mod]
    omega

/-- The stacked lanes' sums of the first loop at an expert: its group's. -/
theorem allFast_at (g : Vec Ideal S64x32768 .f32) (d : FVec Ideal S64x8 .f32) (n : Fin 64) (s a : Fin 8) (hn : n.val = 8 * s.val + a.val) (p : Fin 128) :
    allFast d g (ix2 n p) = sumFast d g s 16 le_rfl (ix2 a p) :=
  groups_at (fun s => sumFast d g s 16 le_rfl) n s a hn p

/-- The reference's token scaling at a token. -/
theorem tokScale_at (e : FVec Ideal Cert.ReferenceIdeal.S32768x64 .f32) (d : FVec Ideal Cert.ReferenceIdeal.S64 .f32) (n : Fin 32768) :
    Ref.tokScale e d (ix1 n) = cTok * Ideal.div 1 (∑ b : Fin 64, d (ix1 b) * e (ix2 n b) + cEps) := by
  pointwise [Ref.tokScale]

/-- The reference's expert scaling at an expert. -/
theorem expScale_at (e : FVec Ideal Cert.ReferenceIdeal.S32768x64 .f32) (d : FVec Ideal Cert.ReferenceIdeal.S32768 .f32) (a : Fin 64) :
    Ref.expScale e d (ix1 a) = cExp * Ideal.div 1 (∑ n : Fin 32768, d (ix1 n) * e (ix2 n a) + cEps) := by
  pointwise [Ref.expScale]

/-- The lanes' sums of the second loop after `k` chunks: the terms of those chunks' slices. -/
theorem sumExact_at (d : FVec Ideal S64x1 .f32) (g : Vec Ideal S64x32768 .f32) (a : Fin 64) (p : Fin 128) : ∀ (k : ℕ) (h : k ≤ 16),
    sumExact d g k h (ix2 a p) = ∑ i : Fin k, ∑ j : Fin 16, termsExact d (tokens g i.val (by omega)) (ix2 a (⟨128 * j.val + p.val, by omega⟩ : Fin 2048))
  | 0, _ => by pointwise [sumExact]; simp
  | k + 1, h => by
    rw [sumExact, Fin.sum_univ_castSucc, lanes_at]
    exact congrArg (· + _) (sumExact_at d g a p k (Nat.le_of_succ_le h))

/-- The lanes' sums of the first loop after `k` chunks, in a group of eight experts. -/
theorem sumFast_at (d : FVec Ideal S64x8 .f32) (g : Vec Ideal S64x32768 .f32) (s a : Fin 8) (p : Fin 128) : ∀ (k : ℕ) (h : k ≤ 16),
    sumFast d g s k h (ix2 a p) = ∑ i : Fin k, ∑ j : Fin 16, termsFast d s (tokens g i.val (by omega)) (ix2 a (⟨128 * j.val + p.val, by omega⟩ : Fin 2048))
  | 0, _ => by pointwise [sumFast]; simp
  | k + 1, h => by
    rw [sumFast, Fin.sum_univ_castSucc, lanes_at]
    exact congrArg (· + _) (sumFast_at d g s a p k (Nat.le_of_succ_le h))

/-- A sum over `m * k` positions, block by block. -/
theorem sum_blocks (m k N : ℕ) (hN : m * k = N) (f : Fin N → EReal) :
    ∑ n, f n = ∑ a : Fin m, ∑ b : Fin k, f ⟨k * a.val + b.val, by
      subst hN
      calc k * a.val + b.val < k * a.val + k := by omega
        _ = k * (a.val + 1) := by ring
        _ ≤ k * m := Nat.mul_le_mul_left _ a.isLt
        _ = m * k := Nat.mul_comm _ _⟩ := by
  subst hN
  rw [← Equiv.sum_comp finProdFinEquiv, Fintype.sum_prod_type]
  refine Finset.sum_congr rfl fun a _ => Finset.sum_congr rfl fun b _ => congrArg f (Fin.ext ?_)
  simp [finProdFinEquiv, Nat.add_comm]

/-- The lanes' sums of the chunks' terms are the sum over all tokens. -/
theorem sum_tokens (f : Fin 32768 → EReal) :
    ∑ p : Fin 128, ∑ i : Fin 16, ∑ j : Fin 16, f ⟨2048 * i.val + (128 * j.val + p.val), by omega⟩ = ∑ n, f n := by
  rw [sum_blocks 16 2048 32768 (by norm_num) f, Finset.sum_comm]
  refine Finset.sum_congr rfl fun i _ => ?_
  rw [sum_blocks 16 128 2048 (by norm_num) fun q => f ⟨2048 * i.val + q.val, by omega⟩, Finset.sum_comm]

attribute [local irreducible] sumExact sumFast lanes

/-! ## One iteration, over the extended reals -/

/-- A token's scaling from the expert scalings `D`. -/
def tokR (E : Fin 32768 → Fin 64 → EReal) (D : Fin 64 → EReal) (n : Fin 32768) : EReal := Ideal.div cTok (∑ b, E n b * D b + cEps)

/-- An expert's scaling after one iteration from the expert scalings `D`. -/
def expR (E : Fin 32768 → Fin 64 → EReal) (D : Fin 64 → EReal) (a : Fin 64) : EReal := Ideal.div cExp (∑ n, E n a * tokR E D n + cEps)

/-- A trip of the second loop is one iteration. -/
theorem stepExact_eq (g : Vec Ideal S64x32768 .f32) (d : FVec Ideal S64x1 .f32) (a : Fin 64) (z : Fin 1) :
    stepExact g d (ix2 a z) = expR (fun n b => g (ix2 b n)) (fun b => d (ix2 b 0)) a := by
  rw [stepExact_at, expR, ← sum_tokens]
  simp only [sumExact_at, termsExact_at, tokens_at, tokR]

/-- A trip of the first loop is one iteration, in each of the eight columns. -/
theorem stepFast_eq (g : Vec Ideal S64x32768 .f32) (d : FVec Ideal S64x8 .f32) (D : Fin 64 → EReal) (hd : ∀ b z, d (ix2 b z) = D b) (a : Fin 64) (z : Fin 8) :
    stepFast g d (ix2 a z) = expR (fun n b => g (ix2 b n)) D a := by
  have ha : a.val = 8 * (⟨a.val / 8, by omega⟩ : Fin 8).val + (⟨a.val % 8, by omega⟩ : Fin 8).val := by dsimp only; omega
  rw [stepFast_at, colFast_at, expR, ← sum_tokens]
  refine congrArg (fun s => Ideal.div cExp (s + cEps)) (Finset.sum_congr rfl fun p _ => ?_)
  rw [allFast_at g d a _ _ ha, sumFast_at]
  refine Finset.sum_congr rfl fun i _ => Finset.sum_congr rfl fun j _ => ?_
  rw [termsFast_at, tokFast_at]
  refine congrArg₂ (· * ·) ((tokens_at g i.val _ _ _).trans (congrArg (fun b => g (ix2 b _)) (Fin.ext ha.symm))) ?_
  rw [tokR]
  refine congrArg (fun s => Ideal.div cTok (s + cEps)) (Finset.sum_congr rfl fun b _ => ?_)
  rw [tokens_at, hd, mul_comm]

end Cert.Router.Trips

end
-- ==== Proof.Trips.Scale.lean ====
module

public import proofs.«01_k».proof.Proof.Trips.Read

@[expose] public section

set_option maxRecDepth 16384

noncomputable section

namespace Cert.Router.Trips

open Idealize.ShloMosaic

/-! ## Positive real numbers -/

/-- `x` is a positive real number. -/
def Pos (x : EReal) : Prop := ∃ r : ℝ, 0 < r ∧ x = (r : EReal)

/-- Products of positive real numbers are such. -/
theorem Pos.mul {x y : EReal} (hx : Pos x) (hy : Pos y) : Pos (x * y) := by
  obtain ⟨r, hr, rfl⟩ := hx
  obtain ⟨s, hs, rfl⟩ := hy
  exact ⟨r * s, mul_pos hr hs, (EReal.coe_mul r s).symm⟩

/-- Sums are. -/
theorem Pos.add {x y : EReal} (hx : Pos x) (hy : Pos y) : Pos (x + y) := by
  obtain ⟨r, hr, rfl⟩ := hx
  obtain ⟨s, hs, rfl⟩ := hy
  exact ⟨r + s, add_pos hr hs, (EReal.coe_add r s).symm⟩

/-- None is zero, -/
theorem Pos.ne_zero {x : EReal} (hx : Pos x) : x ≠ 0 := by
  obtain ⟨r, hr, rfl⟩ := hx
  exact_mod_cast hr.ne'

/-- and each is above the least extended real. -/
theorem Pos.bot_lt {x : EReal} (hx : Pos x) : ⊥ < x := by
  obtain ⟨r, hr, rfl⟩ := hx
  exact EReal.bot_lt_coe r

/-- One is a positive real number. -/
theorem Pos.one : Pos 1 := ⟨1, one_pos, rfl⟩

/-- Quotients are. -/
theorem Pos.div {x y : EReal} (hx : Pos x) (hy : Pos y) : Pos (Ideal.div x y) := by
  have h0 := hy.ne_zero
  obtain ⟨r, hr, rfl⟩ := hx
  obtain ⟨s, hs, rfl⟩ := hy
  refine ⟨r * s⁻¹, mul_pos hr (inv_pos.mpr hs), ?_⟩
  rw [Ideal.div, if_neg h0, EReal.coe_mul, EReal.coe_inv]

/-- The exponential of a real number is a positive real number. -/
theorem Pos.exp (r : ℝ) : Pos (Ideal.exp (r : EReal)) := ⟨Real.exp r, Real.exp_pos r, rfl⟩

/-- A sum of positive real numbers and of one more of them. -/
theorem Pos.sum_add {n : ℕ} (f : Fin n → EReal) (hf : ∀ i, Pos (f i)) {x : EReal} (hx : Pos x) : Pos (∑ i, f i + x) := by
  induction n with
  | zero => simpa using hx
  | succ n ih =>
    rw [Fin.sum_univ_succ, add_assoc]
    exact (hf 0).add (ih _ fun i => hf i.succ)

/-- A product with a quotient of one is a quotient. -/
theorem mul_div_one (c y : EReal) (hy : y ≠ 0) : c * Ideal.div 1 y = Ideal.div c y := by
  rw [Ideal.div, Ideal.div, if_neg hy, if_neg hy, one_mul]

/-- The tokens' scale is a positive real number, -/
theorem cTok_pos : Pos cTok := by
  refine ⟨1 / 32768, by norm_num, ?_⟩
  change Ideal.ofBits .f32 _ = _
  simp [Ideal.ofBits, Ideal.ieee, -EReal.coe_mul]
  norm_num

/-- so is the experts', -/
theorem cExp_pos : Pos cExp := by
  refine ⟨1 / 64, by norm_num, ?_⟩
  change Ideal.ofBits .f32 _ = _
  simp [Ideal.ofBits, Ideal.ieee, -EReal.coe_mul]
  norm_num

/-- and so is the tolerance. -/
theorem cEps_pos : Pos cEps := by
  refine ⟨11258999 / 1125899906842624, by norm_num, ?_⟩
  change Ideal.ofBits .f32 _ = _
  simp [Ideal.ofBits, Ideal.ieee, -EReal.coe_mul]
  norm_num

/-! ## The iterations -/

/-- Token scalings are positive real numbers where the exponentials and the expert scalings are, -/
theorem tokR_pos {E : Fin 32768 → Fin 64 → EReal} {D : Fin 64 → EReal} (hE : ∀ n b, Pos (E n b)) (hD : ∀ b, Pos (D b)) (n : Fin 32768) :
    Pos (tokR E D n) :=
  cTok_pos.div (Pos.sum_add _ (fun b => (hE n b).mul (hD b)) cEps_pos)

/-- and so are the expert scalings after an iteration. -/
theorem expR_pos {E : Fin 32768 → Fin 64 → EReal} {D : Fin 64 → EReal} (hE : ∀ n b, Pos (E n b)) (hD : ∀ b, Pos (D b)) (a : Fin 64) :
    Pos (expR E D a) :=
  cExp_pos.div (Pos.sum_add _ (fun n => (hE n a).mul (tokR_pos hE hD n)) cEps_pos)

/-- The expert scalings after `n` iterations, from ones. -/
def iterR (E : Fin 32768 → Fin 64 → EReal) : ℕ → Fin 64 → EReal
  | 0 => fun _ => 1
  | n + 1 => expR E (iterR E n)

/-- They are positive real numbers where the costs are. -/
theorem iterR_pos {E : Fin 32768 → Fin 64 → EReal} (hE : ∀ n b, Pos (E n b)) : ∀ (n : ℕ) (a : Fin 64), Pos (iterR E n a)
  | 0, _ => Pos.one
  | n + 1, a => expR_pos hE (iterR_pos hE n) a

/-- The reference's token scalings are these. -/
theorem tokScale_eq (e : FVec Ideal Cert.ReferenceIdeal.S32768x64 .f32) (d : FVec Ideal Cert.ReferenceIdeal.S64 .f32)
    (he : ∀ n b, Pos (e (ix2 n b))) (hd : ∀ b, Pos (d (ix1 b))) (n : Fin 32768) :
    Ref.tokScale e d (ix1 n) = tokR (fun n b => e (ix2 n b)) (fun b => d (ix1 b)) n := by
  have h : ∑ b : Fin 64, d (ix1 b) * e (ix2 n b) = ∑ b : Fin 64, e (ix2 n b) * d (ix1 b) := Finset.sum_congr rfl fun b _ => mul_comm _ _
  rw [tokScale_at, h, tokR]
  exact mul_div_one _ _ (Pos.sum_add _ (fun b => (he n b).mul (hd b)) cEps_pos).ne_zero

/-- The reference's expert scalings after one iteration are these. -/
theorem expScale_eq (e : FVec Ideal Cert.ReferenceIdeal.S32768x64 .f32) (d : FVec Ideal Cert.ReferenceIdeal.S64 .f32)
    (he : ∀ n b, Pos (e (ix2 n b))) (hd : ∀ b, Pos (d (ix1 b))) (a : Fin 64) :
    Ref.expScale e (Ref.tokScale e d) (ix1 a) = expR (fun n b => e (ix2 n b)) (fun b => d (ix1 b)) a := by
  have h : ∑ n : Fin 32768, Ref.tokScale e d (ix1 n) * e (ix2 n a)
      = ∑ n : Fin 32768, e (ix2 n a) * tokR (fun n b => e (ix2 n b)) (fun b => d (ix1 b)) n :=
    Finset.sum_congr rfl fun n _ => by rw [tokScale_eq e d he hd, mul_comm]
  rw [expScale_at, h, expR]
  exact mul_div_one _ _ (Pos.sum_add _ (fun n => (he n a).mul (tokR_pos he hd n)) cEps_pos).ne_zero

/-- The reference's expert scalings after `n` iterations. -/
theorem scale_eq (e : FVec Ideal Cert.ReferenceIdeal.S32768x64 .f32) (he : ∀ n b, Pos (e (ix2 n b))) : ∀ (n : ℕ) (a : Fin 64),
    Ref.scale e n (ix1 a) = iterR (fun n b => e (ix2 n b)) n a
  | 0, a => by
    pointwise [Ref.scale, iterR]
  | n + 1, a => by
    have h : (fun b => Ref.scale e n (ix1 b)) = iterR (fun n b => e (ix2 n b)) n := funext (scale_eq e he n)
    have hp : ∀ b, Pos (Ref.scale e n (ix1 b)) := fun b => scale_eq e he n b ▸ iterR_pos he n b
    rw [Ref.scale, expScale_eq e _ he hp, h, iterR]

end Cert.Router.Trips

end
-- ==== Proof.Trips.Yield.lean ====
module

public import proofs.«01_k».proof.Proof.Trips.Scale

@[expose] public section

set_option maxRecDepth 16384

noncomputable section

namespace Cert.Router.Trips

open Cert.KernelIdeal Cert.KernelIdeal.Gen Cert.Router.Ideal
open Idealize.ShloMosaic Idealize.ShloMosaic.TcCoe Idealize.SL.Sem

/-- The first loop starts from ones. -/
theorem pay4_at (a : Fin 64) (z : Fin 8) : (k0_pay4 : FVec Ideal S64x8 .f32) (ix2 a z) = (1 : EReal) := by
  pointwise [k0_pay4]

/-- The second loop starts from the first column of the first loop's eight. -/
theorem pay6_at (v : FVec Ideal S64x8 .f32) (a : Fin 64) (z : Fin 1) : k0_pay6 v (ix2 a z) = v (ix2 a 0) := by
  pointwise [k0_pay6]

variable (c : Dev nD) (i : grid0.Coords)
    (arg1 : Memref sig .tc .vmem S4096x768 .f32) (harg1 : arg1.IsWhole) (arg2 : Memref sig .tc .vmem S768x64 .f32) (harg2 : arg2.IsWhole)
    (arg3 : Memref sig .tc .vmem S4096x64 .f32) (harg3 : arg3.IsWhole) (arg4 : Memref sig .tc .vmem S4096x64 .f32) (harg4 : arg4.IsWhole)
    (arg5 : Memref sig .tc .vmem S1x32768 .i32) (harg5 : arg5.IsWhole) (arg6 : Memref sig .tc .vmem S64x32768 .f32) (harg6 : arg6.IsWhole)
    (hc : k0_cond1 i = 1#1) (g : Vec Ideal S64x32768 .f32)

/-- Before trip `n` of the first loop, each of the eight columns holds the expert scalings after `n` iterations. -/
theorem fast_at (n : ℕ) (hn : n ≤ 28) (a : Fin 64) (z : Fin 8) :
    st_k0_t1 Variants.none c none i arg1 harg1 arg2 harg2 arg3 harg3 arg4 harg4 arg5 harg5 arg6 harg6 hc (Scalar.ofBits .f32 0x38000000#32)
      (harg6.unread g) k0_pay4 n (ix2 a z) = iterR (fun n b => g (ix2 b n)) n a := by
  induction n generalizing a z with
  | zero =>
    rw [st_k0_t1_zero]
    exact pay4_at a z
  | succ n ih =>
    rw [st_k0_t1_succ Variants.none c none i arg1 harg1 arg2 harg2 arg3 harg3 arg4 harg4 arg5 harg5 arg6 harg6 hc _ _ _ ⟨n, lt_of_lt_of_eq hn trips_t1.symm⟩,
      trip_fast, stepFast_eq g _ _ fun b z => ih (Nat.le_of_succ_le hn) b z, iterR]

/-- Before trip `n` of the second loop, the carried column holds the expert scalings after `28 + n` iterations. -/
theorem exact_at (n : ℕ) (hn : n ≤ 2) (v : FVec Ideal S64x1 .f32) (hv : ∀ a z, v (ix2 a z) = iterR (fun n b => g (ix2 b n)) 28 a) (a : Fin 64) (z : Fin 1) :
    st_k0_t2 Variants.none c none i arg1 harg1 arg2 harg2 arg3 harg3 arg4 harg4 arg5 harg5 arg6 harg6 hc (Scalar.ofBits .f32 0x38000000#32)
      (harg6.unread g) v n (ix2 a z) = iterR (fun n b => g (ix2 b n)) (28 + n) a := by
  induction n generalizing a z with
  | zero =>
    rw [st_k0_t2_zero]
    exact hv a z
  | succ n ih =>
    rw [st_k0_t2_succ Variants.none c none i arg1 harg1 arg2 harg2 arg3 harg3 arg4 harg4 arg5 harg5 arg6 harg6 hc _ _ _ ⟨n, lt_of_lt_of_eq hn trips_t2.symm⟩,
      trip_exact, stepExact_eq, funext fun b => ih (Nat.le_of_succ_le hn) b 0, ← Nat.add_assoc, iterR]

/-- What the loops yield: the expert scalings after 30 iterations. -/
theorem dExact_at (a : Fin 64) (z : Fin 1) :
    dExact c i arg1 harg1 arg2 harg2 arg3 harg3 arg4 harg4 arg5 harg5 arg6 harg6 hc g (ix2 a z) = iterR (fun n b => g (ix2 b n)) 30 a := by
  have h1 : Scf.trips k0_t1_loop.lb k0_t1_loop.ub k0_t1_loop.st = 28 := trips_t1
  have h2 : Scf.trips k0_t2_loop.lb k0_t2_loop.ub k0_t2_loop.st = 2 := trips_t2
  unfold dExact
  rw [h2]
  refine exact_at c i arg1 harg1 arg2 harg2 arg3 harg3 arg4 harg4 arg5 harg5 arg6 harg6 hc g 2 le_rfl _ (fun a z => ?_) a z
  rw [pay6_at]
  unfold dFast
  rw [h1]
  exact fast_at c i arg1 harg1 arg2 harg2 arg3 harg3 arg4 harg4 arg5 harg5 arg6 harg6 hc g 28 le_rfl a 0

end Cert.Router.Trips

end
-- ==== Proof.Arg.FirstMax.lean ====
module

public import Idealize.ShloMosaic.Lib.Pipeline.ValueKit
public import proofs.«01_k».proof.Proof.Gen.ReferenceIdeal

@[expose] public section

set_option maxRecDepth 16384

noncomputable section

namespace Cert.Router.Arg

open Idealize.ShloMosaic

/-- `i` is the first position at which `f` is largest. -/
def FirstMax (f : Fin 64 → EReal) (i : Fin 64) : Prop := (∀ k, f k ≤ f i) ∧ ∀ k, f k = f i → i ≤ k

/-- There is one such position at most. -/
theorem FirstMax.unique {f : Fin 64 → EReal} {i j : Fin 64} (hi : FirstMax f i) (hj : FirstMax f j) : i = j :=
  le_antisymm (hi.2 j (le_antisymm (hi.1 j) (hj.1 i))) (hj.2 i (le_antisymm (hj.1 i) (hi.1 j)))

/-- There is one. -/
theorem exists_firstMax (f : Fin 64 → EReal) : ∃ i, FirstMax f i := by
  obtain ⟨i, -, hi⟩ := Finset.exists_max_image Finset.univ f ⟨0, Finset.mem_univ _⟩
  have hne : (Finset.univ.filter fun k => f k = f i).Nonempty := ⟨i, by simp⟩
  have hmem := Finset.mem_filter.mp (Finset.min'_mem _ hne)
  refine ⟨_, fun k => (hi k (Finset.mem_univ _)).trans hmem.2.ge, fun k hk => Finset.min'_le _ _ ?_⟩
  exact Finset.mem_filter.mpr ⟨Finset.mem_univ _, hk.trans hmem.2⟩

/-- The order of real numbers scaled by one positive number is their order, so the first largest one stays where it is. -/
theorem FirstMax.scaled {r : Fin 64 → ℝ} {s : ℝ} (hs : 0 < s) {i : Fin 64} (h : FirstMax (fun k => ((r k : ℝ) : EReal)) i) :
    FirstMax (fun k => ((r k : ℝ) : EReal) * (s : EReal)) i := by
  refine ⟨fun k => ?_, fun k hk => h.2 k ?_⟩
  · have := EReal.coe_le_coe_iff.mp (h.1 k)
    dsimp only
    rw [← EReal.coe_mul, ← EReal.coe_mul, EReal.coe_le_coe_iff]
    exact mul_le_mul_of_nonneg_right this hs.le
  · dsimp only at hk
    rw [← EReal.coe_mul, ← EReal.coe_mul, EReal.coe_eq_coe_iff] at hk
    exact congrArg _ (mul_right_cancel₀ hs.ne' hk)

/-! ## The largest value, then the smallest position holding it -/

/-- A word is at most the smaller of two, as signed numbers, exactly when it is at most both. -/
theorem toInt_le_minsi (c x y : BitVec 32) : c.toInt ≤ (IntOp.minsi x y).toInt ↔ c.toInt ≤ x.toInt ∧ c.toInt ≤ y.toInt := by
  unfold IntOp.minsi
  simp only [BitVec.slt, decide_eq_true_eq]
  split_ifs with h <;> constructor <;> intro hc <;> omega

/-- and at most the smallest of many exactly when it is at most each. -/
theorem toInt_le_fold (c b : BitVec 32) (g : Fin 64 → BitVec 32) :
    c.toInt ≤ (Finset.fold IntOp.minsi b g Finset.univ).toInt ↔ c.toInt ≤ b.toInt ∧ ∀ k, c.toInt ≤ (g k).toInt := by
  simpa using Finset.fold_op_rel_iff_and (op := IntOp.minsi) (f := g) (b := b) (s := Finset.univ) (r := fun x y : BitVec 32 => x.toInt ≤ y.toInt)
    (c := c) (fun {x y z} => toInt_le_minsi x y z)

/-- A position, as a word, is its number. -/
theorem toInt_ofNat (k : Fin 64) : (BitVec.ofNat 32 k.val).toInt = k.val := by
  rw [BitVec.toInt_eq_toNat_cond, BitVec.toNat_ofNat, Nat.mod_eq_of_lt (by omega)]
  split_ifs
  · rfl
  · omega

/-- The value the maximum starts from is below every other. -/
theorem ofBits_bot : (FloatOps.ofBits .f32 0xFF800000#32 : Ideal .f32) = (⊥ : EReal) := by
  change Ideal.ofBits .f32 _ = _
  simp [Ideal.ofBits, Ideal.ieee]

/-- The smallest of the positions holding the largest value is the first largest. -/
theorem fold_firstMax (f : Fin 64 → EReal) (b : EReal) (hb : b = ⊥) (i : Fin 64) (hi : FirstMax f i) :
    Finset.fold IntOp.minsi (2147483647#32) (fun k => if f k = Finset.fold max b f Finset.univ then BitVec.ofNat 32 k.val else 64#32) Finset.univ
      = BitVec.ofNat 32 i.val := by
  have hm : Finset.fold max b f Finset.univ = f i := by
    subst hb
    refine le_antisymm ?_ (Finset.le_sup (f := f) (Finset.mem_univ i))
    exact Finset.sup_le fun k _ => hi.1 k
  rw [hm]
  refine BitVec.eq_of_toInt_eq (le_antisymm ?_ ?_)
  · refine (((toInt_le_fold _ _ _).mp le_rfl).2 i).trans ?_
    rw [if_pos rfl]
  · rw [toInt_le_fold, toInt_ofNat]
    refine ⟨by have := i.isLt; simp; omega, fun k => ?_⟩
    split_ifs with hk
    · rw [toInt_ofNat]; exact_mod_cast hi.2 k hk
    · have := i.isLt; simp
      try omega

/-! ## The pairwise choice of the greater value, and of the smaller position where the values are equal -/

open Cert.ReferenceIdeal in
/-- The chooser keeps its first pair when that one's value is greater, or the values are equal and its position is smaller; the second otherwise. -/
theorem reducer_eq (a b : Ideal .f32 × BitVec 32) : reducer_argmax_f32_i32 a b = if (b.1 : EReal) < a.1 ∨ ((a.1 : EReal) = b.1 ∧ a.2.toInt < b.2.toInt) then a else b := by
  obtain ⟨a, m⟩ := a
  obtain ⟨b, n⟩ := b
  change EReal at a b
  unfold reducer_argmax_f32_i32
  simp only [Ideal.cmpf_def, Ideal.cmp, IntOp.ori, IntOp.andi, IntOp.cmpi, Scalar.select, BitVec.slt]
  by_cases h1 : b < a
  · have h : ∀ x : Bool, (1#1 ||| BitVec.ofBool x) = 1#1 := by decide
    simp [h1, h]
  · by_cases h2 : a = b
    · subst h2
      by_cases h3 : m.toInt < n.toInt <;> simp [h3]
    · simp [h1, h2]

/-- `p` is at least as good as `q`: its value greater, or equal and its position no larger. -/
def Better (p q : EReal × BitVec 32) : Prop := q.1 < p.1 ∨ (q.1 = p.1 ∧ p.2.toInt ≤ q.2.toInt)

/-- A pair is at least as good as itself. -/
theorem Better.refl (p : EReal × BitVec 32) : Better p p := .inr ⟨rfl, le_rfl⟩

/-- Being at least as good passes along. -/
theorem Better.trans {p q r : EReal × BitVec 32} (h : Better p q) (h' : Better q r) : Better p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

open Cert.ReferenceIdeal in
/-- The chosen one of two pairs is one of them, at least as good as both. -/
theorem reducer_spec (a b : EReal × BitVec 32) : (reducer_argmax_f32_i32 (F := Ideal) a b = a ∨ reducer_argmax_f32_i32 (F := Ideal) a b = b)
    ∧ Better (reducer_argmax_f32_i32 (F := Ideal) a b) a ∧ Better (reducer_argmax_f32_i32 (F := Ideal) a b) b := by
  rw [reducer_eq]
  split_ifs with h
  · refine ⟨.inl rfl, Better.refl _, ?_⟩
    rcases h with h | ⟨h, k⟩
    · exact .inl h
    · exact .inr ⟨h.symm, k.le⟩
  · refine ⟨.inr rfl, ?_, Better.refl _⟩
    push Not at h
    rcases h.1.lt_or_eq with k | k
    · exact .inl k
    · exact .inr ⟨k, h.2 k⟩

open Cert.ReferenceIdeal in
/-- The chosen pair of a list is its start or one of the list, at least as good as all of these. -/
theorem foldl_spec (l : List (EReal × BitVec 32)) : ∀ a : EReal × BitVec 32,
    (l.foldl (reducer_argmax_f32_i32 (F := Ideal)) a = a ∨ l.foldl (reducer_argmax_f32_i32 (F := Ideal)) a ∈ l)
    ∧ Better (l.foldl (reducer_argmax_f32_i32 (F := Ideal)) a) a ∧ ∀ p ∈ l, Better (l.foldl (reducer_argmax_f32_i32 (F := Ideal)) a) p := by
  induction l with
  | nil => exact fun a => ⟨.inl rfl, Better.refl _, by simp⟩
  | cons b l ih =>
    intro a
    rw [List.foldl_cons]
    obtain ⟨h1, h2, h3⟩ := ih (reducer_argmax_f32_i32 (F := Ideal) a b)
    obtain ⟨k1, k2, k3⟩ := reducer_spec a b
    refine ⟨?_, h2.trans k2, ?_⟩
    · rcases h1 with h1 | h1
      · rw [h1]
        rcases k1 with k1 | k1
        · exact .inl k1
        · exact .inr (by rw [k1]; exact List.mem_cons_self)
      · exact .inr (List.mem_cons_of_mem _ h1)
    · intro p hp
      rcases List.mem_cons.mp hp with rfl | hp
      · exact h2.trans k3
      · exact h3 p hp

open Cert.ReferenceIdeal in
/-- The chosen pair of the pairs (value, position) of `f`, from a start below every value, has the first largest one's position. -/
theorem foldl_firstMax (f : Fin 64 → EReal) (l : List (EReal × BitVec 32)) (hl : ∀ p, p ∈ l ↔ ∃ k, p = (f k, BitVec.ofNat 32 k.val))
    (a : EReal × BitVec 32) (ha : ∀ k, a.1 < f k) (i : Fin 64) (hi : FirstMax f i) :
    (l.foldl (reducer_argmax_f32_i32 (F := Ideal)) a).2 = BitVec.ofNat 32 i.val := by
  obtain ⟨h1, h2, h3⟩ := foldl_spec l a
  generalize l.foldl (reducer_argmax_f32_i32 (F := Ideal)) a = q at h1 h2 h3
  have hq : Better q (f i, BitVec.ofNat 32 i.val) := h3 _ ((hl _).mpr ⟨i, rfl⟩)
  have hmem : q ∈ l := by
    rcases h1 with rfl | h1
    · exfalso
      rcases hq with h | ⟨h, -⟩
      · exact lt_asymm h (ha i)
      · exact (ha i).ne' h
    · exact h1
  obtain ⟨k, rfl⟩ := (hl q).mp hmem
  rcases hq with h | ⟨h, h'⟩
  · exact absurd h (not_lt.mpr (hi.1 k))
  · rw [toInt_ofNat, toInt_ofNat] at h'
    have : k = i := le_antisymm (by exact_mod_cast h') (hi.2 k h.symm)
    rw [this]

end Cert.Router.Arg

end
-- ==== Proof.Arg.Chosen.lean ====
module

public import proofs.«01_k».proof.Proof.Arg.FirstMax
public import proofs.«01_k».proof.Proof.Gen.KernelIdeal.Skeleton
public import proofs.«01_k».proof.Proof.Ref.Run

@[expose] public section

set_option maxRecDepth 16384

noncomputable section

namespace Cert.Router.Arg

open Idealize.ShloMosaic

/-- A column made of a vector, at an entry. -/
theorem column_at (v : IVec Cert.ReferenceIdeal.S32768 32) (n : Fin 32768) (z : Fin 1) :
    shapeCast Cert.ReferenceIdeal.S32768x1 v Cert.ReferenceIdeal.Gen.shapeCasts_S32768_S32768x1 (ix2 n z) = v (ix1 n) := by
  pointwise

/-- The balanced assignment at an entry. -/
theorem balanced_at (e : FVec Ideal Cert.ReferenceIdeal.S32768x64 .f32) (d1 : FVec Ideal Cert.ReferenceIdeal.S64 .f32) (d0 : FVec Ideal Cert.ReferenceIdeal.S32768 .f32)
    (n : Fin 32768) (k : Fin 64) : Ref.balanced e d1 d0 (ix2 n k) = (d1 (ix1 k) * e (ix2 n k)) * d0 (ix1 n) := by
  pointwise [Ref.balanced]

open Cert.ReferenceIdeal Cert.ReferenceIdeal.Gen in
/-- The pairs which the reference's chooser folds at a token: its row's values with their positions. -/
theorem mem_fiber (b : FVec Ideal S32768x64 .f32) (n : Fin 32768) (p : EReal × BitVec 32) :
    p ∈ Host.argReduceFiber (b : S32768x64.Idx → EReal) (iotaInDim S32768x64 32 1) reducesTo_S32768x64_S32768_d1 (ix1 n)
      ↔ ∃ k : Fin 64, p = (b (ix2 n k), BitVec.ofNat 32 k.val) := by
  have hv (i : S32768x64.Idx) : (reducesTo_S32768x64_S32768_d1.drop i 0 : Nat) = i 0 := Shape.ReducesTo.drop_apply_val _ i 0
  unfold Host.argReduceFiber
  simp only [List.mem_map, List.mem_filter, List.mem_finRange, true_and, decide_eq_true_eq]
  constructor
  · rintro ⟨q, hq, rfl⟩
    generalize S32768x64.rowMajor.symm q = i at hq
    have h0 : (i 0).val = n.val := (hv i).symm.trans (congrArg Fin.val (congrFun hq 0))
    have hi : i = ix2 n (i 1 : Fin 64) := funext fun a => match a with
      | 0 => Fin.ext h0
      | 1 => rfl
    exact ⟨(i 1 : Fin 64), Prod.ext (congrArg b hi) rfl⟩
  · rintro ⟨k, rfl⟩
    refine ⟨S32768x64.rowMajor (ix2 n k), ?_, ?_⟩
    · rw [Equiv.symm_apply_apply]
      exact funext fun a => match a with
        | 0 => Fin.ext (hv _)
    · rw [Equiv.symm_apply_apply]
      rfl

open Cert.ReferenceIdeal Cert.ReferenceIdeal.Gen in
/-- The reference's choice at a token is the first largest of its row. -/
theorem chosen_at (b : FVec Ideal S32768x64 .f32) (n : Fin 32768) (z : Fin 1) (hb : ∀ k : Fin 64, (⊥ : EReal) < b (ix2 n k)) (i : Fin 64)
    (hi : FirstMax (fun k => b (ix2 n k)) i) : Ref.chosen b (ix2 n z) = BitVec.ofNat 32 i.val := by
  unfold Ref.chosen
  rw [column_at, Ideal.argReduce_eq_reduce2, Host.reduce2_eq_foldl_fiber]
  refine foldl_firstMax (fun k => b (ix2 n k)) _ (mem_fiber b n) _ (fun k => ?_) i hi
  refine lt_of_eq_of_lt ofBits_bot (hb k)

open Cert.KernelIdeal Cert.KernelIdeal.Gen in
/-- The kernel's choice at a token is the first largest of its column times the scalings. -/
theorem pay8_at (v : FVec Ideal S64x1 .f32) (x : FVec Ideal S64x2048 .f32) (z : Fin 1) (q : Fin 2048) (i : Fin 64)
    (hi : FirstMax (fun k => x (ix2 k q) * v (ix2 k 0)) i) : k0_pay8 v x (ix2 z q) = BitVec.ofNat 32 i.val := by
  pointwise [k0_pay8]
  exact fold_firstMax (fun k => x (ix2 k q) * v (ix2 k 0)) _ ofBits_bot i hi

end Cert.Router.Arg

end
-- ==== Proof.Values.Indices.lean ====
module

public import proofs.«01_k».proof.Proof.Values.Run
public import proofs.«01_k».proof.Proof.Trips.Yield
public import proofs.«01_k».proof.Proof.Arg.Chosen

@[expose] public section

set_option maxRecDepth 16384

noncomputable section

namespace Cert.Router.Values

open Cert.KernelIdeal Cert.KernelIdeal.Gen Cert.Router.Ideal Cert.Router.Trips Cert.Router.Arg
open Idealize.ShloMosaic Idealize.ShloMosaic.TcCoe Idealize.SL.Sem

variable (m : (ℓ : Loc nD τ sig) → Buf (Elt Ideal) ℓ)

/-! ## The exponentials -/

/-- The block of exponentials is the logits' block, exponentials taken and rows made columns. -/
theorem pay3_at (x : FVec Ideal S4096x768 .f32) (w : FVec Ideal S768x64 .f32) (b : Fin 64) (q : Fin 4096) :
    k0_pay3 (F := Ideal) x w (ix2 b q) = Ideal.exp (k0_pay1 (F := Ideal) x w (ix2 q b)) := by
  pointwise [k0_pay3]

/-- The exponentials of the reference's logits, at a token and an expert. -/
abbrev E (c : Dev nD) (n : Fin 32768) (b : Fin 64) : EReal := Ideal.exp (L m c (ix2 n b))

/-- What the scratch holds is the exponentials of the reference's logits. -/
theorem cost_at (c : Dev nD) (b : Fin 64) (n : Fin 32768) : cost m c (ix2 b n) = E m c n b := by
  have hy : inPoint (ix2 b n : S64x32768.Idx) = ix2 b (⟨n.val % 4096, Nat.mod_lt _ (by decide)⟩ : Fin 4096) := funext fun a => match a with
    | 0 => rfl
    | 1 => rfl
  unfold cost
  rw [hy]
  refine (pay3_at _ _ b _).trans (congrArg Ideal.exp (point_logits m c _ _ _ ?_ rfl))
  show n.val = 4096 * (n.val / 4096) + n.val % 4096
  omega

/-! ## The kernel's indices -/

/-- A chunk of the scratch at an entry. -/
theorem chunk_at (i : grid0.Coords) (hc : k0_cond1 i = 1#1) (g : Vec Ideal S64x32768 .f32) (k : Fin k0_t3_loop.trips) (b : Fin 64) (q : Fin 2048) (n : Fin 32768)
    (hn : n.val = 2048 * k.val + q.val) : chunk i hc g k (ix2 b q) = g (ix2 b n) := by
  unfold chunk View.ld
  refine congrArg g (funext fun x => Fin.ext ?_)
  have h := k0_off2_eq k
  match x with
  | 0 => simp [h]
  | 1 => simp [h, hn]

/-- The kernel's index of a token is the first largest of its exponentials times the expert scalings after 30 iterations. -/
theorem lastIdx_at (c : Dev nD) (z : Fin 1) (n : Fin 32768) (i : Fin 64) (hi : FirstMax (fun k => E m c n k * iterR (E m c) 30 k) i) :
    lastIdx m c (ix2 z n) = BitVec.ofNat 32 i.val := by
  have hc : k0_cond1 (grid0.coords t0_7) = 1#1 := (cond_iff t0_7).mpr rfl
  have hg : (fun (n : Fin 32768) (b : Fin 64) => cost m c (ix2 b n)) = E m c := funext fun n => funext fun b => cost_at m c b n
  have hy : inChunk (ix2 z n : S1x32768.Idx) = ix2 (0 : Fin 1) (⟨n.val % 2048, Nat.mod_lt _ (by decide)⟩ : Fin 2048) := funext fun a => match a with
    | 0 => rfl
    | 1 => rfl
  have key : ∀ (k : Fin k0_t3_loop.trips) (q : Fin 2048), k.val = n.val / 2048 → q.val = n.val % 2048 →
      k0_pay8 (scalings m c t0_7 hc) (chunk (grid0.coords t0_7) hc (cost m c) k) (ix2 (0 : Fin 1) q) = BitVec.ofNat 32 i.val := fun k q hk hq => by
    have hf : (fun b : Fin 64 => chunk (grid0.coords t0_7) hc (cost m c) k (ix2 b q) * scalings m c t0_7 hc (ix2 b 0)) = fun b => E m c n b * iterR (E m c) 30 b := by
      funext b
      refine congrArg₂ (· * ·) ((chunk_at _ hc (cost m c) k b q n (by omega)).trans (cost_at m c b n)) ?_
      exact (dExact_at _ _ _ _ _ _ _ _ _ _ _ _ _ _ _ _ b 0).trans (congrArg (fun e => iterR e 30 b) hg)
    exact pay8_at _ _ 0 q i (Eq.mp (congrArg (fun f => FirstMax f i) hf.symm) hi)
  unfold lastIdx idxOut
  rw [dif_pos hc]
  unfold idxBlock
  rw [hy]
  exact key _ _ rfl rfl

/-! ## The indices are equal where the logits are real numbers -/

/-- The kernel's column of indices at a token. -/
theorem col_at (v : IVec S1x32768 32) (n : Fin 32768) (z : Fin 1) : shapeCast S32768x1 v shapeCasts_S1x32768_S32768x1 (ix2 n z) = v (ix2 0 n) := by
  pointwise

/-- Where the logits are real numbers the two programs choose the same expert for each token: the reference's row is the kernel's times the
    token's scaling, a positive real number. -/
theorem indices_eq (c : Dev nD) (hL : ∀ n b, ∃ r : ℝ, L m c (ix2 n b) = (r : EReal)) (n : Fin 32768) (z : Fin 1) :
    Ref.indices (L m c) (ix2 n z) = shapeCast S32768x1 (lastIdx m c) shapeCasts_S1x32768_S32768x1 (ix2 n z) := by
  have hE : ∀ n b, Pos (E m c n b) := fun n b => by
    obtain ⟨r, hr⟩ := hL n b
    rw [E, hr]
    exact Pos.exp r
  have hs : ∀ k b, Ref.scale (Host.exp (L m c)) k (ix1 b) = iterR (E m c) k b := fun k b => scale_eq (Host.exp (L m c)) hE k b
  have hd : Pos (Ref.tokScale (Host.exp (L m c)) (Ref.scale (Host.exp (L m c)) 29) (ix1 n)) := by
    rw [tokScale_eq (Host.exp (L m c)) _ hE (fun b => (hs 29 b).symm ▸ iterR_pos hE 29 b)]
    exact tokR_pos hE (fun b => (hs 29 b).symm ▸ iterR_pos hE 29 b) n
  obtain ⟨s, hs0, hs1⟩ := hd
  have hp : ∀ k, Pos (E m c n k * iterR (E m c) 30 k) := fun k => (hE n k).mul (iterR_pos hE 30 k)
  choose r hr0 hr1 using hp
  obtain ⟨i, hi⟩ := exists_firstMax fun k => E m c n k * iterR (E m c) 30 k
  have hb : ∀ k, Ref.balanced (Host.exp (L m c)) (Ref.scale (Host.exp (L m c)) 30) (Ref.tokScale (Host.exp (L m c)) (Ref.scale (Host.exp (L m c)) 29)) (ix2 n k)
      = (r k : EReal) * (s : EReal) := fun k => by
    rw [balanced_at, hs, hs1, ← hr1, mul_comm (iterR (E m c) 30 k)]
    rfl
  rw [col_at, lastIdx_at m c 0 n i hi]
  unfold Ref.indices Ref.indicesAt
  refine chosen_at _ n z (fun k => ?_) i ?_
  · rw [hb, ← EReal.coe_mul]
    exact EReal.bot_lt_coe _
  · rw [funext hb]
    exact FirstMax.scaled hs0 (funext hr1 ▸ hi)

/-- The logits of real arguments are real numbers. -/
theorem logits_real (h : FVec Ideal S4x8192x768 .f32) (w : FVec Ideal S64x768 .f32) (hh : ∀ i, ∃ r : ℝ, h i = (r : EReal)) (hw : ∀ i, ∃ r : ℝ, w i = (r : EReal))
    (j : S32768x64.Idx) : ∃ r : ℝ, Ref.logits h w j = (r : EReal) := by
  rw [logits_at]
  refine Finset.sum_induction _ (fun x : EReal => ∃ r : ℝ, x = (r : EReal)) ?_ ⟨0, rfl⟩ fun k _ => ?_
  · rintro _ _ ⟨r, rfl⟩ ⟨s, rfl⟩
    exact ⟨r + s, (EReal.coe_add r s).symm⟩
  · obtain ⟨r, hr⟩ := hh (ix3 (⟨(j 0).val / 8192, Nat.div_lt_of_lt_mul (j 0).isLt⟩ : Fin 4) (⟨(j 0).val % 8192, Nat.mod_lt _ (by decide)⟩ : Fin 8192) k)
    obtain ⟨s, hs⟩ := hw (ix2 (j 1) k)
    exact ⟨r * s, by rw [hr, hs, EReal.coe_mul]⟩

end Cert.Router.Values

end
-- ==== Proof.Values.Mask.lean ====
module

public import proofs.«01_k».proof.Proof.Gen.On_finite
public import Idealize.ShloMosaic.Lib.ReduceAll
public import Idealize.ShloMosaic.Lib.Pipeline.ValueKit

@[expose] public section

set_option maxRecDepth 16384

noncomputable section

namespace Cert.Router.Values

open Cert.On_finite Cert.On_finite.Gen
open Idealize.ShloMosaic

/-- The bound the mask compares with is the greatest extended real. -/
theorem ofBits_top : (FloatOps.ofBits .f32 0x7F800000#32 : Ideal .f32) = (⊤ : EReal) := by
  change Ideal.ofBits .f32 _ = _
  simp [Ideal.ofBits, Ideal.ieee]

/-- An extended real whose absolute value is below the greatest one is a real number. -/
theorem real_of_abs_lt (a : EReal) (h : max a (-a) < ⊤) : ∃ r : ℝ, a = (r : EReal) := by
  induction a with
  | bot => simp at h
  | top => simp at h
  | coe r => exact ⟨r, rfl⟩

/-- An entry the mask's comparison holds at is a real number. -/
theorem real_of_cmp (a : Ideal .f32) (h : FloatOps.cmpf .olt (FloatOps.absf a : Ideal .f32) (FloatOps.ofBits .f32 0x7F800000#32) = 1#1) :
    ∃ r : ℝ, (a : EReal) = (r : EReal) := by
  rw [Ideal.cmpf_def, ofBits_top] at h
  refine real_of_abs_lt a ?_
  by_contra hn
  have h' : BitVec.ofBool (decide (max (a : EReal) (-a) < ⊤)) = 1#1 := h
  rw [decide_eq_false hn] at h'
  exact absurd h' (by decide)

/-- Both bits of a conjunction that is one are one. -/
theorem andi_one : ∀ a b : BitVec 1, IntOp.andi a b = 1#1 → a = 1#1 ∧ b = 1#1 := by decide

/-- Where the mask holds at an index, every entry of both arguments is a real number. -/
theorem finite_of_mask (x : FVec Ideal S4x8192x768 .f32) (w : FVec Ideal S64x768 .f32) (j : S32768x1.Idx)
    (h : (Cert.On_finite.fn (F := Ideal) x w).2.2 j = 1#1) :
    (∀ i, ∃ r : ℝ, (x i : EReal) = (r : EReal)) ∧ ∀ i, ∃ r : ℝ, (w i : EReal) = (r : EReal) := by
  haveI : Subsingleton S_.Idx := ⟨fun a b => funext fun i => i.elim0⟩
  obtain ⟨h1, h2⟩ := andi_one _ _ h
  refine ⟨fun i => real_of_cmp _ ?_, fun i => real_of_cmp _ ?_⟩
  · exact Host.reduce_andi_all _ _ _ _ _ h1 i
  · exact Host.reduce_andi_all _ _ _ _ _ h2 i

end Cert.Router.Values

end
-- ==== Proof.Values.Claim.lean ====
module

public import proofs.«01_k».proof.Defs
public import proofs.«01_k».proof.Proof.Gen.On_finite
public import proofs.«01_k».proof.Proof.Values.Indices
public import proofs.«01_k».proof.Proof.Values.Mask

@[expose] public section

set_option maxRecDepth 16384

noncomputable section

namespace Cert.Router.Values

open Idealize.ShloMosaic Idealize.ShloMosaic.TcCoe Idealize.SL.Sem

variable (m : (ℓ : Loc Cert.KernelIdeal.nD Cert.KernelIdeal.τ Cert.KernelIdeal.sig) → Buf (Elt Ideal) ℓ)

/-- Where the mask holds the reference's index of a token is the kernel's. -/
theorem third (c : Dev Cert.KernelIdeal.nD) (i : Cert.KernelIdeal.S32768x1.Idx)
    (hi : (Cert.On_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))).2.2 i = 1#1) :
    Ref.indices (L m c) i = shapeCast Cert.KernelIdeal.S32768x1 (lastIdx m c) Cert.KernelIdeal.Gen.shapeCasts_S1x32768_S32768x1 i := by
  obtain ⟨hx, hw⟩ := finite_of_mask _ _ i hi
  have h := indices_eq m c (fun n b => logits_real _ _ hx hw (ix2 n b)) (i 0) (i 1)
  have e : (ix2 (i 0 : Fin 32768) (i 1 : Fin 1) : Cert.KernelIdeal.S32768x1.Idx) = i := funext fun a => match a with
    | 0 => rfl
    | 1 => rfl
  exact e ▸ h

/-- The first two results of the two programs are equal at every element: both are the reference's logits of the launch's arguments,
    and their affinities. The chosen experts are equal where every entry of the arguments is a real number. -/
theorem algebraic : Cert.algebraic_KernelIdeal_ReferenceIdeal_on_finite (hOn_finite := Cert.On_finite.Gen.facts) := by
  intro m g m' g' _ hag
  have e : ∀ c, Ref.logits₀ m' c = L m c := fun c => congrArg₂ Ref.logits (hag c).1 (hag c).2
  refine ⟨fun c => L m c, fun c => Ref.affin (L m c), fun c => (shapeCast _ (lastIdx m c) Cert.KernelIdeal.Gen.shapeCasts_S1x32768_S32768x1 : IVec _ 32), ?_, ?_⟩
  · exact (θ_run _ _ _).mono (fun _ h c => ⟨fun i _ => congrFun (h c).1 i, fun i _ => congrFun (h c).2.1 i, fun i _ => congrFun (h c).2.2.1 i,
      (h c).2.2.2⟩) (run m g)
  · exact (θ_run _ _ _).mono (fun _ h c => ⟨fun i _ => congrFun ((h c).1.trans (e c)) i,
      fun i _ => congrFun ((h c).2.1.trans (congrArg Ref.affin (e c))) i,
      fun i hi => (congrFun ((h c).2.2.1.trans (congrArg Ref.indices (e c))) i).trans (third m c i hi), (h c).2.2.2⟩) (Ref.run m' g')

end Cert.Router.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.On_finite
public import proofs.«01_k».proof.Proof.Gen.ReferenceIdeal
public import proofs.«01_k».proof.Proof.Gen.ReferenceIdeal.Run
public import proofs.«01_k».proof.Proof.Bits.Frame
public import proofs.«01_k».proof.Proof.Ideal.Frame
public import proofs.«01_k».proof.Proof.Values.Claim
public import proofs.«01_k».proof.Proof.Ref.Run
public import Idealize.ShloMosaic.Adequacy
public import Idealize.ShloMosaic.Init

@[expose] public section

noncomputable section

namespace Cert.Proof

open Idealize.ShloMosaic Idealize.SL.Sem Cert.Kernel

/-- Every claim of `Defs.lean`, at the side conditions the generated modules prove. -/
theorem claim : Cert.Claim := ⟨Cert.Kernel.Gen.facts, Cert.KernelIdeal.Gen.facts, Cert.ReferenceIdeal.Gen.facts, Cert.On_finite.Gen.facts,
  fun m g _ => Cert.Router.Bits.frame m g, fun m g _ => Cert.Router.Ideal.frame m g, fun m g _ => Cert.Router.Ref.frame m g, trivial, Cert.Router.Values.algebraic⟩

end Cert.Proof

end
